-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x1024 : Shape := ⟨2, ![2048, 1024]⟩
abbrev S2x512x256 : Shape := ⟨3, ![2, 512, 256]⟩
abbrev S2x3x512x256 : Shape := ⟨4, ![2, 3, 512, 256]⟩
abbrev S2x3 : Shape := ⟨2, ![2, 3]⟩
abbrev S_ : Shape := ⟨0, ![]⟩
abbrev S1x512x256 : Shape := ⟨3, ![1, 512, 256]⟩
abbrev S512x256 : Shape := ⟨2, ![512, 256]⟩
abbrev S1x1 : Shape := ⟨2, ![1, 1]⟩
abbrev S1x1x512x256 : Shape := ⟨4, ![1, 1, 512, 256]⟩

abbrev nBuf : Space → Nat
  | .hbm => 2
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S2048x1024, .f32⟩
  | .local _ .vmem, ⟨0, _⟩ => ⟨S1x2048x1024, .f32⟩
  | .local _ .vmem, ⟨1, _⟩ => ⟨S2048x1024, .f32⟩
  | .local _ .vmem, ⟨2, _⟩ => ⟨S2x512x256, .f32⟩
  | .local _ .vmem, ⟨3, _⟩ => ⟨S2x512x256, .f32⟩
  | .local _ .vmem, ⟨4, _⟩ => ⟨S2x3x512x256, .f32⟩
  | .local _ .vmem, ⟨5, _⟩ => ⟨S2x3x512x256, .f32⟩
  | .local _ .vmem, ⟨6, _⟩ => ⟨S2x3x512x256, .f32⟩
  | .local _ .vmem, ⟨7, _⟩ => ⟨S2x3x512x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_off1 (d0 : Dev nD) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v12 : BitVec 32 := Scalar.muli v2 c512_i32
  let v13 : Index := Scalar.indexCast v12
  let c0_8 : Index := 0#32
  ![0, v13.toNat, 0]
def k0_off2 (d0 : Dev nD) : Fin 3 → Nat :=
  let c0_13 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_12 : BitVec 32 := 512#32
  let v19 : BitVec 32 := Scalar.muli v2 c512_i32_12
  let v20 : Index := Scalar.indexCast v19
  let c512 : Index := 512#32
  ![0, v20.toNat, 512]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_24 : BitVec 32 := 1#32
  let v26 : BitVec 32 := Scalar.muli v6 c1_i32_24
  let v27 : BitVec 32 := Scalar.addi c0_i32_25 v26
  v27.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_37 : BitVec 32 := 1#32
  let v36 : BitVec 32 := Scalar.muli v4 c1_i32_37
  let v37 : BitVec 32 := Scalar.addi c0_i32_38 v36
  v37.toNat
def k0_off3 (d0 : Dev nD) : Fin 3 → Nat :=
  let c0_44 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_43 : BitVec 32 := 512#32
  let v46 : BitVec 32 := Scalar.muli v2 c512_i32_43
  let v47 : Index := Scalar.indexCast v46
  let c256 : Index := 256#32
  ![0, v47.toNat, 256]
def k0_off4 (d0 : Dev nD) : Fin 3 → Nat :=
  let c0_48 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_47 : BitVec 32 := 512#32
  let v53 : BitVec 32 := Scalar.muli v2 c512_i32_47
  let v54 : Index := Scalar.indexCast v53
  let c768 : Index := 768#32
  ![0, v54.toNat, 768]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_59 : BitVec 32 := 1#32
  let v60 : BitVec 32 := Scalar.muli v6 c1_i32_59
  let v61 : BitVec 32 := Scalar.addi c0_i32_60 v60
  v61.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_72 : BitVec 32 := 1#32
  let v70 : BitVec 32 := Scalar.muli v4 c1_i32_72
  let v71 : BitVec 32 := Scalar.addi c0_i32_73 v70
  v71.toNat
def k0_off5 (d0 : Dev nD) (c_m1_i32 : BitVec 32) : Fin 3 → Nat :=
  let c0_110 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v94 : BitVec 32 := Scalar.addi v2 c_m1_i32
  let c4_i32_103 : BitVec 32 := 4#32
  let v95 : BitVec 32 := Scalar.addi v94 c4_i32_103
  let c4_i32_104 : BitVec 32 := 4#32
  let v96 : BitVec 32 := Scalar.remsi v95 c4_i32_104
  let c512_i32_109 : BitVec 32 := 512#32
  let v99 : BitVec 32 := Scalar.muli v96 c512_i32_109
  let v100 : Index := Scalar.indexCast v99
  let c0_111 : Index := 0#32
  ![0, v100.toNat, 0]
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_122 : BitVec 32 := 1#32
  let v107 : BitVec 32 := Scalar.muli v6 c1_i32_122
  let v108 : BitVec 32 := Scalar.addi c0_i32_123 v107
  v108.toNat
def k0_off6 (d0 : Dev nD) (c1_i32_153 : BitVec 32) : Fin 3 → Nat :=
  let c0_161 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.addi v2 c1_i32_153
  let c4_i32_154 : BitVec 32 := 4#32
  let v132 : BitVec 32 := Scalar.addi v131 c4_i32_154
  let c4_i32_155 : BitVec 32 := 4#32
  let v133 : BitVec 32 := Scalar.remsi v132 c4_i32_155
  let c512_i32_160 : BitVec 32 := 512#32
  let v136 : BitVec 32 := Scalar.muli v133 c512_i32_160
  let v137 : Index := Scalar.indexCast v136
  let c512_162 : Index := 512#32
  ![0, v137.toNat, 512]
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_173 : BitVec 32 := 1#32
  let v144 : BitVec 32 := Scalar.muli v4 c1_i32_173
  let v145 : BitVec 32 := Scalar.addi c0_i32_174 v144
  v145.toNat
def k0_off7 (d0 : Dev nD) (c_m1_i32_204 : BitVec 32) : Fin 3 → Nat :=
  let c0_212 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : BitVec 32 := Scalar.addi v2 c_m1_i32_204
  let c4_i32_205 : BitVec 32 := 4#32
  let v169 : BitVec 32 := Scalar.addi v168 c4_i32_205
  let c4_i32_206 : BitVec 32 := 4#32
  let v170 : BitVec 32 := Scalar.remsi v169 c4_i32_206
  let c512_i32_211 : BitVec 32 := 512#32
  let v173 : BitVec 32 := Scalar.muli v170 c512_i32_211
  let v174 : Index := Scalar.indexCast v173
  let c256_213 : Index := 256#32
  ![0, v174.toNat, 256]
def k0_dev9 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_224 : BitVec 32 := 1#32
  let v181 : BitVec 32 := Scalar.muli v6 c1_i32_224
  let v182 : BitVec 32 := Scalar.addi c0_i32_225 v181
  v182.toNat
def k0_off8 (d0 : Dev nD) (c1_i32_255 : BitVec 32) : Fin 3 → Nat :=
  let c0_263 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : BitVec 32 := Scalar.addi v2 c1_i32_255
  let c4_i32_256 : BitVec 32 := 4#32
  let v206 : BitVec 32 := Scalar.addi v205 c4_i32_256
  let c4_i32_257 : BitVec 32 := 4#32
  let v207 : BitVec 32 := Scalar.remsi v206 c4_i32_257
  let c512_i32_262 : BitVec 32 := 512#32
  let v210 : BitVec 32 := Scalar.muli v207 c512_i32_262
  let v211 : Index := Scalar.indexCast v210
  let c768_264 : Index := 768#32
  ![0, v211.toNat, 768]
def k0_dev10 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_275 : BitVec 32 := 1#32
  let v218 : BitVec 32 := Scalar.muli v4 c1_i32_275
  let v219 : BitVec 32 := Scalar.addi c0_i32_276 v218
  v219.toNat
def k0_dev11 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_325 : BitVec 32 := 1#32
  let v255 : BitVec 32 := Scalar.muli v6 c1_i32_325
  let v256 : BitVec 32 := Scalar.addi c0_i32_326 v255
  v256.toNat
def k0_dev12 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_376 : BitVec 32 := 1#32
  let v292 : BitVec 32 := Scalar.muli v4 c1_i32_376
  let v293 : BitVec 32 := Scalar.addi c0_i32_377 v292
  v293.toNat
def k0_dev13 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_427 : BitVec 32 := 1#32
  let v329 : BitVec 32 := Scalar.muli v6 c1_i32_427
  let v330 : BitVec 32 := Scalar.addi c0_i32_428 v329
  v330.toNat
def k0_dev14 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_478 : BitVec 32 := 1#32
  let v366 : BitVec 32 := Scalar.muli v4 c1_i32_478
  let v367 : BitVec 32 := Scalar.addi c0_i32_479 v366
  v367.toNat
def k0_off9 (d0 : Dev nD) (c_m3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v390 : BitVec 32 := Scalar.addi v2 c_m3_i32
  let c4_i32_509 : BitVec 32 := 4#32
  let v391 : BitVec 32 := Scalar.addi v390 c4_i32_509
  let c4_i32_510 : BitVec 32 := 4#32
  let v392 : BitVec 32 := Scalar.remsi v391 c4_i32_510
  let c512_i32_517 : BitVec 32 := 512#32
  let v400 : BitVec 32 := Scalar.muli v392 c512_i32_517
  let v401 : Index := Scalar.indexCast v400
  let c0_518 : Index := 0#32
  ![v401.toNat, 0]
def k0_off9_at (r : Fin 4) : BitVec 32 :=
  if r.val < 2 then
    if r.val < 1 then
      4294967293#32
    else
      0#32
  else
    if r.val < 3 then
      4294967295#32
    else
      4294967294#32
def k0_dev15 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_529 : BitVec 32 := 1#32
  let v406 : BitVec 32 := Scalar.muli v6 c1_i32_529
  let v407 : BitVec 32 := Scalar.addi c0_i32_530 v406
  v407.toNat
def k0_off10 (d0 : Dev nD) (c3_i32_560 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v430 : BitVec 32 := Scalar.addi v2 c3_i32_560
  let c4_i32_561 : BitVec 32 := 4#32
  let v431 : BitVec 32 := Scalar.addi v430 c4_i32_561
  let c4_i32_562 : BitVec 32 := 4#32
  let v432 : BitVec 32 := Scalar.remsi v431 c4_i32_562
  let c512_i32_570 : BitVec 32 := 512#32
  let v440 : BitVec 32 := Scalar.muli v432 c512_i32_570
  let v441 : Index := Scalar.indexCast v440
  let c512_571 : Index := 512#32
  ![v441.toNat, 512]
def k0_dev16 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_582 : BitVec 32 := 1#32
  let v446 : BitVec 32 := Scalar.muli v4 c1_i32_582
  let v447 : BitVec 32 := Scalar.addi c0_i32_583 v446
  v447.toNat
def k0_off11 (d0 : Dev nD) (c_m3_i32_613 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v470 : BitVec 32 := Scalar.addi v2 c_m3_i32_613
  let c4_i32_614 : BitVec 32 := 4#32
  let v471 : BitVec 32 := Scalar.addi v470 c4_i32_614
  let c4_i32_615 : BitVec 32 := 4#32
  let v472 : BitVec 32 := Scalar.remsi v471 c4_i32_615
  let c512_i32_623 : BitVec 32 := 512#32
  let v480 : BitVec 32 := Scalar.muli v472 c512_i32_623
  let v481 : Index := Scalar.indexCast v480
  let c256_624 : Index := 256#32
  ![v481.toNat, 256]
def k0_off11_at (r : Fin 4) : BitVec 32 :=
  if r.val < 2 then
    if r.val < 1 then
      4294967293#32
    else
      0#32
  else
    if r.val < 3 then
      4294967295#32
    else
      4294967294#32
def k0_dev17 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_635 : BitVec 32 := 1#32
  let v486 : BitVec 32 := Scalar.muli v6 c1_i32_635
  let v487 : BitVec 32 := Scalar.addi c0_i32_636 v486
  v487.toNat
def k0_off12 (d0 : Dev nD) (c3_i32_666 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v510 : BitVec 32 := Scalar.addi v2 c3_i32_666
  let c4_i32_667 : BitVec 32 := 4#32
  let v511 : BitVec 32 := Scalar.addi v510 c4_i32_667
  let c4_i32_668 : BitVec 32 := 4#32
  let v512 : BitVec 32 := Scalar.remsi v511 c4_i32_668
  let c512_i32_676 : BitVec 32 := 512#32
  let v520 : BitVec 32 := Scalar.muli v512 c512_i32_676
  let v521 : Index := Scalar.indexCast v520
  let c768_677 : Index := 768#32
  ![v521.toNat, 768]
def k0_dev18 (d0 : Dev nD) : Nat :=
  let c0_i32_689 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_688 : BitVec 32 := 1#32
  let v526 : BitVec 32 := Scalar.muli v4 c1_i32_688
  let v527 : BitVec 32 := Scalar.addi c0_i32_689 v526
  v527.toNat
def k0_dev19 (d0 : Dev nD) : Nat :=
  let c0_i32_731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_730 : BitVec 32 := 1#32
  let v553 : BitVec 32 := Scalar.muli v6 c1_i32_730
  let v554 : BitVec 32 := Scalar.addi c0_i32_731 v553
  v554.toNat
def k0_dev20 (d0 : Dev nD) : Nat :=
  let c0_i32_779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_778 : BitVec 32 := 1#32
  let v585 : BitVec 32 := Scalar.muli v4 c1_i32_778
  let v586 : BitVec 32 := Scalar.addi c0_i32_779 v585
  v586.toNat
def k0_dev21 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_826 : BitVec 32 := 1#32
  let v617 : BitVec 32 := Scalar.muli v6 c1_i32_826
  let v618 : BitVec 32 := Scalar.addi c0_i32_827 v617
  v618.toNat
def k0_dev22 (d0 : Dev nD) : Nat :=
  let c0_i32_875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_874 : BitVec 32 := 1#32
  let v649 : BitVec 32 := Scalar.muli v4 c1_i32_874
  let v650 : BitVec 32 := Scalar.addi c0_i32_875 v649
  v650.toNat
def k0_dev23 (d0 : Dev nD) : Nat :=
  let c0_i32_925 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_924 : BitVec 32 := 1#32
  let v681 : BitVec 32 := Scalar.muli v6 c1_i32_924
  let v682 : BitVec 32 := Scalar.addi c0_i32_925 v681
  v682.toNat
def k0_dev24 (d0 : Dev nD) : Nat :=
  let c0_i32_975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_974 : BitVec 32 := 1#32
  let v713 : BitVec 32 := Scalar.muli v4 c1_i32_974
  let v714 : BitVec 32 := Scalar.addi c0_i32_975 v713
  v714.toNat
def k0_dev25 (d0 : Dev nD) : Nat :=
  let c0_i32_1025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_1024 : BitVec 32 := 1#32
  let v745 : BitVec 32 := Scalar.muli v6 c1_i32_1024
  let v746 : BitVec 32 := Scalar.addi c0_i32_1025 v745
  v746.toNat
def k0_dev26 (d0 : Dev nD) : Nat :=
  let c0_i32_1075 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_1074 : BitVec 32 := 1#32
  let v777 : BitVec 32 := Scalar.muli v4 c1_i32_1074
  let v778 : BitVec 32 := Scalar.addi c0_i32_1075 v777
  v778.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S_, .f32⟩
  | .hbm, ⟨2, _⟩ => ⟨S2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProg.lean ====
/-
# The kernel's body as a chain of ring steps

The kernel moves four streams around a ring of four devices. A transfer is numbered by `i < 24`: transfers come in
rounds of four, `i / 4` is the round (rounds 0 to 2 reduce and scatter, rounds 3 to 5 gather), `i % 2` the
direction (0 sends to the next device, 1 to the previous one) and `(i / 2) % 2` the column half of that direction.
This module names, as functions of `i`, what transfer `i` uses, gives the steps of the body as programs over `i`, and
shows that the printed body is the chain of those steps.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdealRing

open Cert.KernelIdeal Cert.KernelIdeal.Gen

open Idealize.ShloMosaic
open Idealize.ShloMosaic.TcCoe
open Idealize.SL Idealize.SL.Sem

variable {F : FTy → Type} [FloatOps F]

/-! ## What transfer `i` uses -/

/-- The column half of transfer `i` within its direction. -/
def stx (i : ℕ) : ℕ := (i / 2) % 2
/-- The hop of transfer `i` within its phase. -/
def hpx (i : ℕ) : ℕ := (i / 4) % 3

theorem stx_lt (i : ℕ) : stx i < 2 := Nat.mod_lt _ (by decide)
theorem hpx_lt (i : ℕ) : hpx i < 3 := Nat.mod_lt _ (by decide)

/-- The slot of a send buffer for stream half `stx i`. -/
theorem sb_inb (i : ℕ) : ∀ a, (![stx i, 0, 0] : Fin 3 → ℕ) a + S1x512x256.size a ≤ S2x512x256.size a := by
  have := stx_lt i
  intro a; fin_cases a
  · show stx i + 1 ≤ 2; omega
  · show 0 + 512 ≤ 512; omega
  · show 0 + 256 ≤ 256; omega

/-- The slot of a landing buffer for stream half `stx i` and hop `hpx i`. -/
theorem ld_inb (i : ℕ) : ∀ a, (![stx i, hpx i, 0, 0] : Fin 4 → ℕ) a + S1x1x512x256.size a ≤ S2x3x512x256.size a := by
  have := stx_lt i
  have := hpx_lt i
  intro a; fin_cases a
  · show stx i + 1 ≤ 2; omega
  · show hpx i + 1 ≤ 3; omega
  · show 0 + 512 ≤ 512; omega
  · show 0 + 256 ≤ 256; omega

/-- The semaphore for stream half `stx i` and hop `hpx i`. -/
theorem sm_inb (i : ℕ) : ∀ a, (![stx i, hpx i] : Fin 2 → ℕ) a + S1x1.size a ≤ S2x3.size a := by
  have := stx_lt i
  have := hpx_lt i
  intro a; fin_cases a
  · show stx i + 1 ≤ 2; omega
  · show hpx i + 1 ≤ 3; omega

abbrev sbR (i : ℕ) : Rect S2x512x256 := Rect.unit (s := S2x512x256) ![stx i, 0, 0] S1x512x256.size (sb_inb i)
abbrev ldR (i : ℕ) : Rect S2x3x512x256 := Rect.unit (s := S2x3x512x256) ![stx i, hpx i, 0, 0] S1x1x512x256.size (ld_inb i)

abbrev xM : Memref sig .tc .vmem S1x2048x1024 .f32 := Memref.whole cc0_stg0_0
abbrev oM : Memref sig .tc .vmem S2048x1024 .f32 := Memref.whole cc0_stg1_0

/-- The send buffer of transfer `i`'s direction. -/
def sbB (i : ℕ) : Memref sig .tc .vmem S2x512x256 .f32 :=
  match i % 2 with | 0 => Memref.whole cc0_scratch0 | _ => Memref.whole cc0_scratch1

/-- The landing buffer of transfer `i`'s phase and direction. -/
def ldB (i : ℕ) : Memref sig .tc .vmem S2x3x512x256 .f32 :=
  match i / 12, i % 2 with
  | 0, 0 => Memref.whole cc0_scratch2
  | 0, _ => Memref.whole cc0_scratch3
  | _, 0 => Memref.whole cc0_scratch4
  | _, _ => Memref.whole cc0_scratch5

/-- The send semaphores of transfer `i`'s phase and direction. -/
def ssA (i : ℕ) : DmaSems sig S2x3 :=
  match i / 12, i % 2 with
  | 0, 0 => cc0_scratch6
  | 0, _ => cc0_scratch8
  | _, 0 => cc0_scratch10
  | _, _ => cc0_scratch12

/-- The receive semaphores of transfer `i`'s phase and direction. -/
def rsA (i : ℕ) : DmaSems sig S2x3 :=
  match i / 12, i % 2 with
  | 0, 0 => cc0_scratch7
  | 0, _ => cc0_scratch9
  | _, 0 => cc0_scratch11
  | _, _ => cc0_scratch13

/-- Transfer `i`'s slot of its direction's send buffer. -/
abbrev sbM (i : ℕ) : Memref sig .tc .vmem S512x256 .f32 :=
  ((sbB i).slice (sbR i) (fun _ => rfl)).squeeze S512x256 squeezes_S1x512x256_S512x256
/-- Transfer `i`'s landing slot. -/
abbrev ldM (i : ℕ) : Memref sig .tc .vmem S512x256 .f32 :=
  ((ldB i).slice (ldR i) (fun _ => rfl)).squeeze S512x256 squeezes_S1x1x512x256_S512x256
/-- Transfer `i`'s source: the send buffer's slot up to round 3, then the slot the round before landed in. -/
def srcM (i : ℕ) : Memref sig .tc .vmem S512x256 .f32 := match i / 16 with | 0 => sbM i | _ => ldM (i - 4)
/-- Transfer `i`'s send and receive semaphores. -/
def sS (i : ℕ) : DmaSem sig := (((ssA i).slice (Rect.unit (s := S2x3) ![stx i, hpx i] S1x1.size (sm_inb i))).squeeze S_ squeezes_S1x1_S_).sem
def rS (i : ℕ) : DmaSem sig := (((rsA i).slice (Rect.unit (s := S2x3) ![stx i, hpx i] S1x1.size (sm_inb i))).squeeze S_ squeezes_S1x1_S_).sem
/-- The barrier semaphore. -/
abbrev barS : Sem sig := (SemArray.scalar (sig.barrier 0 rfl) : Sems sig S_).sem

theorem word_bits {i : ℕ} : (ldM i).view.WordExact := (View.wordExact_bits rfl).reshape _ _
theorem word_src (i : ℕ) : (srcM i).view.WordExact := by
  unfold srcM; split
  · exact (View.wordExact_bits rfl).reshape _ _
  · exact (View.wordExact_bits rfl).reshape _ _

/-! ## The steps -/

/-- The programs the steps are. -/
abbrev StepP (F : FTy → Type) [FloatOps F] : Type 1 := Prog (TpuEff nD τ sig (Elt F) Λ₀ .tc) PUnit

abbrev InbX (o : Fin 3 → ℕ) : Prop := ∀ a, o a + S1x512x256.size a ≤ S1x2048x1024.size a
abbrev InbO (o : Fin 2 → ℕ) : Prop := ∀ a, o a + S512x256.size a ≤ S2048x1024.size a

/-- Fill transfer `i`'s send slot with a block of the input. -/
def fillP (i : ℕ) (xo : Fin 3 → ℕ) (hx : InbX xo) (k : StepP F) : StepP F :=
  .op (.load xM (Rect.unit (s := S1x2048x1024) xo S1x512x256.size hx).toLoadRect (View.loadsAt_vmem h_S1x512x256)) fun a =>
  .op (.load (sbB i) (sbR i).toLoadRect (View.loadsAt_vmem h_S1x512x256)) fun _ =>
  .op (.store (sbB i) (sbR i)
    (shapeCast S1x512x256 (shapeCast S512x256 a shapeCasts_S1x512x256_S512x256) shapeCasts_S512x256_S1x512x256)
    Finset.univ (View.stores_vmem_bits_univ h_S1x512x256 rfl) (.inl rfl)) fun _ => k

/-- Start transfer `i` to device `n`. -/
def sendP (i : ℕ) (n : Dev nD) (k : StepP F) : StepP F :=
  .op (.enqueueDma (srcM i) (.remote (Dev.tc n) (ldM i) (.dma (sS i)) rfl) (.dma (rS i)) (word_src i) word_bits ⟨⟨rfl, Or.inl rfl⟩, trivial⟩) fun _ => k

/-- Wait for transfer `i` to have left this device, and for its counterpart to have landed here. -/
def waitP (i : ℕ) (k : StepP F) : StepP F :=
  .op (.waitDma2 (sS i) (ldM i) (srcM i) word_bits (word_src i)) fun _ =>
  .op (.waitDma2 (rS i) (srcM i) (ldM i) (word_src i) word_bits) fun _ => k

/-- Add a block of the input to what landed and hand the sum on. -/
def sumP (i : ℕ) (xo : Fin 3 → ℕ) (hx : InbX xo) (k : FVec F S512x256 .f32 → StepP F) : StepP F :=
  .op (.load (ldB i) (ldR i).toLoadRect (View.loadsAt_vmem h_S1x1x512x256)) fun a =>
  .op (.load xM (Rect.unit (s := S1x2048x1024) xo S1x512x256.size hx).toLoadRect (View.loadsAt_vmem h_S1x512x256)) fun b =>
  k (addf (shapeCast S512x256 a shapeCasts_S1x1x512x256_S512x256) (shapeCast S512x256 b shapeCasts_S1x512x256_S512x256))

/-- Write a block of the result. -/
def outP (oo : Fin 2 → ℕ) (ho : InbO oo) (v : FVec F S512x256 .f32) (k : StepP F) : StepP F :=
  .op (.load oM (Rect.unit (s := S2048x1024) oo S512x256.size ho).toLoadRect (View.loadsAt_vmem h_S512x256)) fun _ =>
  .op (.store oM (Rect.unit (s := S2048x1024) oo S512x256.size ho) v Finset.univ (View.stores_vmem_bits_univ h_S512x256 rfl) (.inl rfl)) fun _ => k

/-- Put a block in transfer `i`'s send slot. -/
def putP (i : ℕ) (v : FVec F S512x256 .f32) (k : StepP F) : StepP F :=
  .op (.load (sbB i) (sbR i).toLoadRect (View.loadsAt_vmem h_S1x512x256)) fun _ =>
  .op (.store (sbB i) (sbR i) (shapeCast S1x512x256 v shapeCasts_S512x256_S1x512x256)
    Finset.univ (View.stores_vmem_bits_univ h_S1x512x256 rfl) (.inl rfl)) fun _ => k

/-- Copy what landed to a block of the result. -/
def copyP (i : ℕ) (oo : Fin 2 → ℕ) (ho : InbO oo) (k : StepP F) : StepP F :=
  .op (.load (ldB i) (ldR i).toLoadRect (View.loadsAt_vmem h_S1x1x512x256)) fun a =>
  outP oo ho (shapeCast S512x256 a shapeCasts_S1x1x512x256_S512x256) k

/-- A step of rounds 0 and 1: wait, add, pass the sum on. -/
def rsP (i : ℕ) (xo : Fin 3 → ℕ) (hx : InbX xo) (n : Dev nD) (k : StepP F) : StepP F :=
  waitP i <| sumP i xo hx fun v => putP i v <| sendP (i + 4) n k

/-- A step of round 2: wait, add, write the finished block, start gathering it. -/
def turnP (i : ℕ) (xo : Fin 3 → ℕ) (hx : InbX xo) (oo : Fin 2 → ℕ) (ho : InbO oo) (n : Dev nD) (k : StepP F) : StepP F :=
  waitP i <| sumP i xo hx fun v => outP oo ho v <| putP i v <| sendP (i + 4) n k

/-- A step of rounds 3 and 4: wait, pass the block on, write it. -/
def agP (i : ℕ) (oo : Fin 2 → ℕ) (ho : InbO oo) (n : Dev nD) (k : StepP F) : StepP F :=
  waitP i <| sendP (i + 4) n <| copyP i oo ho k

/-- A step of round 5: wait and write the block. -/
def lastP (i : ℕ) (oo : Fin 2 → ℕ) (ho : InbO oo) (k : StepP F) : StepP F :=
  waitP i <| copyP i oo ho k

/-- The handshake with both neighbours. -/
def shakeP (p n : Dev nD) (k : StepP F) : StepP F :=
  .op (.semSignal (Dev.tc p) barS (1#32).toNat) fun _ =>
  .op (.semSignal (Dev.tc n) barS (1#32).toNat) fun _ =>
  .op (.semWait barS (2#32).toNat) fun _ => k

/-! ## The body -/

/-- The body of device `d` after its first four transfers have started. -/
def tailP (d : Dev nD) : StepP F :=
  rsP 0 (k0_off5 d 4294967295#32) (k0_off5_inb d 2) ⟨k0_dev7 d, k0_dev7_lt d⟩ <|
  rsP 1 (k0_off6 d 1#32) (k0_off6_inb d 0) ⟨k0_dev8 d, k0_dev8_lt d⟩ <|
  rsP 2 (k0_off7 d 4294967295#32) (k0_off7_inb d 2) ⟨k0_dev9 d, k0_dev9_lt d⟩ <|
  rsP 3 (k0_off8 d 1#32) (k0_off8_inb d 0) ⟨k0_dev10 d, k0_dev10_lt d⟩ <|
  rsP 4 (k0_off5 d 4294967294#32) (k0_off5_inb d 1) ⟨k0_dev11 d, k0_dev11_lt d⟩ <|
  rsP 5 (k0_off6 d 2#32) (k0_off6_inb d 1) ⟨k0_dev12 d, k0_dev12_lt d⟩ <|
  rsP 6 (k0_off7 d 4294967294#32) (k0_off7_inb d 1) ⟨k0_dev13 d, k0_dev13_lt d⟩ <|
  rsP 7 (k0_off8 d 2#32) (k0_off8_inb d 1) ⟨k0_dev14 d, k0_dev14_lt d⟩ <|
  turnP 8 (k0_off5 d 4294967293#32) (k0_off5_inb d 0) (k0_off9 d 4294967293#32) (k0_off9_inb d 0) ⟨k0_dev15 d, k0_dev15_lt d⟩ <|
  turnP 9 (k0_off6 d 3#32) (k0_off6_inb d 2) (k0_off10 d 3#32) (k0_off10_inb d 3) ⟨k0_dev16 d, k0_dev16_lt d⟩ <|
  turnP 10 (k0_off7 d 4294967293#32) (k0_off7_inb d 0) (k0_off11 d 4294967293#32) (k0_off11_inb d 0) ⟨k0_dev17 d, k0_dev17_lt d⟩ <|
  turnP 11 (k0_off8 d 3#32) (k0_off8_inb d 2) (k0_off12 d 3#32) (k0_off12_inb d 3) ⟨k0_dev18 d, k0_dev18_lt d⟩ <|
  agP 12 (k0_off9 d 0#32) (k0_off9_inb d 1) ⟨k0_dev19 d, k0_dev19_lt d⟩ <|
  agP 13 (k0_off10 d 0#32) (k0_off10_inb d 0) ⟨k0_dev20 d, k0_dev20_lt d⟩ <|
  agP 14 (k0_off11 d 0#32) (k0_off11_inb d 1) ⟨k0_dev21 d, k0_dev21_lt d⟩ <|
  agP 15 (k0_off12 d 0#32) (k0_off12_inb d 0) ⟨k0_dev22 d, k0_dev22_lt d⟩ <|
  agP 16 (k0_off9 d 4294967295#32) (k0_off9_inb d 2) ⟨k0_dev23 d, k0_dev23_lt d⟩ <|
  agP 17 (k0_off10 d 1#32) (k0_off10_inb d 1) ⟨k0_dev24 d, k0_dev24_lt d⟩ <|
  agP 18 (k0_off11 d 4294967295#32) (k0_off11_inb d 2) ⟨k0_dev25 d, k0_dev25_lt d⟩ <|
  agP 19 (k0_off12 d 1#32) (k0_off12_inb d 1) ⟨k0_dev26 d, k0_dev26_lt d⟩ <|
  lastP 20 (k0_off9 d 4294967294#32) (k0_off9_inb d 3) <|
  lastP 21 (k0_off10 d 2#32) (k0_off10_inb d 2) <|
  lastP 22 (k0_off11 d 4294967294#32) (k0_off11_inb d 3) <|
  lastP 23 (k0_off12 d 2#32) (k0_off12_inb d 2) <|
  .ret ⟨⟩

/-- The body of device `d`, from the handshake on. -/
def ringP (d : Dev nD) : StepP F :=
  shakeP ⟨k0_dev1 d, k0_dev1_lt d⟩ ⟨k0_dev2 d, k0_dev2_lt d⟩ <|
  fillP 0 (k0_off1 d) (k0_off1_inb d) <|
  fillP 1 (k0_off2 d) (k0_off2_inb d) <|
  sendP 0 ⟨k0_dev3 d, k0_dev3_lt d⟩ <|
  sendP 1 ⟨k0_dev4 d, k0_dev4_lt d⟩ <|
  fillP 2 (k0_off3 d) (k0_off3_inb d) <|
  fillP 3 (k0_off4 d) (k0_off4_inb d) <|
  sendP 2 ⟨k0_dev5 d, k0_dev5_lt d⟩ <|
  sendP 3 ⟨k0_dev6 d, k0_dev6_lt d⟩ <|
  tailP d

/-- The printed body is the chain of steps of the device it runs on. -/
theorem body_eq : cc0_body (F := F) xM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13
    = .op .deviceId ringP := by
  chain_rfl

end Cert.KernelIdealRing

end
-- ==== Proof.KernelIdealSched.lean ====
/-
# What the transfers carry, and the order they keep

The contents every transfer carries, the schedule of the semaphores (who signals each one, by how much, and what is
handed over with the signal), and the levels that order the waits.
-/
module

public import proofs.«01_k».proof.Proof.KernelIdealProg
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The next device around the ring. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- Where device `c` sends transfer `i`. -/
def tgt (c : Dev nD) (i : ℕ) : Dev nD := if i % 2 = 0 then nxt c else prv c
/-- Where the transfer `i` that device `c` receives comes from. -/
def org (c : Dev nD) (i : ℕ) : Dev nD := if i % 2 = 0 then prv c else nxt c

theorem org_tgt (c : Dev nD) (i : ℕ) : org (tgt c i) i = c := by
  unfold org tgt; split
  · exact prv_nxt c
  · exact nxt_prv c
theorem tgt_org (c : Dev nD) (i : ℕ) : tgt (org c i) i = c := by
  unfold org tgt; split
  · exact nxt_prv c
  · exact prv_nxt c
theorem org_congr (c : Dev nD) {i j : ℕ} (h : i % 2 = j % 2) : org c i = org c j := by unfold org; rw [h]

/-- The devices around the ring, in the direction of transfer `i`. -/
def ringAt (i : ℕ) : Dev nD ≃ Dev nD := ⟨fun c => tgt c i, fun c => org c i, fun c => org_tgt c i, fun c => tgt_org c i⟩

/-! ## The cells -/

abbrev barCell (c : Dev nD) : GSem nD τ sig := ((c : Thread nD τ), .reg barS)
abbrev sendCell (c : Dev nD) (i : ℕ) : GSem nD τ sig := ((c : Thread nD τ), .dma (sS i))
abbrev recvCell (c : Dev nD) (i : ℕ) : GSem nD τ sig := ((c : Thread nD τ), .dma (rS i))

/-- Whether a DMA semaphore is a receive semaphore of the ring. -/
def isR (q : DmaSem sig) : Bool := decide (2 ≤ q.val ∧ ((q.val - 2) / 6) % 2 = 1)
/-- The transfer a DMA semaphore of the ring is for. -/
def dec (q : DmaSem sig) : ℕ :=
  12 * ((q.val - 2) / 24) + 4 * ((q.val - 2) % 3) + 2 * (((q.val - 2) / 3) % 2) + ((q.val - 2) / 12) % 2

theorem dec_all : ∀ i : Fin 24, (dec (sS i.val) = i.val ∧ isR (sS i.val) = false ∧ 2 ≤ (sS i.val).val)
    ∧ (dec (rS i.val) = i.val ∧ isR (rS i.val) = true ∧ 2 ≤ (rS i.val).val) := by decide +kernel

section Dec
variable {i : ℕ} (hi : i < 24)
include hi
theorem dec_s : dec (sS i) = i := (dec_all ⟨i, hi⟩).1.1
theorem isR_s : isR (sS i) = false := (dec_all ⟨i, hi⟩).1.2.1
theorem two_s : 2 ≤ (sS i).val := (dec_all ⟨i, hi⟩).1.2.2
theorem dec_r : dec (rS i) = i := (dec_all ⟨i, hi⟩).2.1
theorem isR_r : isR (rS i) = true := (dec_all ⟨i, hi⟩).2.2.1
theorem two_r : 2 ≤ (rS i).val := (dec_all ⟨i, hi⟩).2.2.2
end Dec

/-- What one transfer's wait consumes. -/
abbrev N : ℕ := (ldM 0).view.dmaCredit
theorem N_pos : 0 < N := View.dmaCredit_pos _ (by decide)

theorem ld_credit (i : ℕ) : (ldM i).view.dmaCredit = N := by
  show (ldB i).view.ref.dmaCredit S512x256 .f32 = N
  unfold ldB; split <;> rfl
theorem src_credit (i : ℕ) : (srcM i).view.dmaCredit = N := by
  unfold srcM; split
  · show (sbB i).view.ref.dmaCredit S512x256 .f32 = N
    unfold sbB; split <;> rfl
  · exact ld_credit _

/-! ## Contents -/

/-- The staged input of device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The block of the input device `c` adds to what it sends in transfer `i`: its rows move against the transfers. -/
def xo (c : Dev nD) (i : ℕ) : Fin 3 → ℕ :=
  ![0, 512 * ((c.val + (if i % 2 = 0 then 3 else 1) * (i / 4)) % 4), 512 * (i % 2) + 256 * stx i]

theorem xo_inb (c : Dev nD) (i : ℕ) : InbX (xo c i) := by
  have h1 := stx_lt i
  have h2 : i % 2 < 2 := Nat.mod_lt _ (by decide)
  have h3 : (c.val + (if i % 2 = 0 then 3 else 1) * (i / 4)) % 4 < 4 := Nat.mod_lt _ (by decide)
  intro a; fin_cases a
  · show 0 + 1 ≤ 1; omega
  · show 512 * ((c.val + (if i % 2 = 0 then 3 else 1) * (i / 4)) % 4) + 512 ≤ 2048; omega
  · show 512 * (i % 2) + 256 * stx i + 256 ≤ 1024; omega

/-- That block. -/
def xblk (c : Dev nD) (i : ℕ) : FVec F S512x256 .f32 :=
  shapeCast S512x256 (xM.view.readAt (Elt F) (Rect.unit (s := S1x2048x1024) (xo c i) S1x512x256.size (xo_inb c i)).toLoadRect (xstg m ρ c))
    shapeCasts_S1x512x256_S512x256

/-- What stream `j` carries out of device `c` in round `h`: in round 0 a block of its input, in rounds 1 to 3 what it
    received plus a block of its input, from round 4 on what it received. -/
def valh (j : ℕ) : ℕ → Dev nD → FVec F S512x256 .f32
  | 0, c => xblk m ρ c j
  | h + 1, c => if h + 1 < 4 then addf (valh j h (org c j)) (xblk m ρ c (4 * (h + 1) + j)) else valh j h (org c j)

/-- What device `c` sends in transfer `i`. -/
def val (c : Dev nD) (i : ℕ) : FVec F S512x256 .f32 := valh m ρ (i % 4) (i / 4) c

theorem val_first (c : Dev nD) {i : ℕ} (h : i < 4) : val m ρ c i = xblk m ρ c i := by
  unfold val; rw [Nat.mod_eq_of_lt h, Nat.div_eq_of_lt h]; rfl

theorem val_sum (c : Dev nD) {i : ℕ} (h : i < 12) : val m ρ c (i + 4) = addf (val m ρ (org c i) i) (xblk m ρ c (i + 4)) := by
  unfold val
  rw [Nat.add_mod_right, show (i + 4) / 4 = i / 4 + 1 by omega, valh, if_pos (by omega),
    show 4 * (i / 4 + 1) + i % 4 = i + 4 by omega, org_congr c (show i % 4 % 2 = i % 2 by omega)]

theorem val_pass (c : Dev nD) {i : ℕ} (h : 12 ≤ i) : val m ρ c (i + 4) = val m ρ (org c i) i := by
  unfold val
  rw [Nat.add_mod_right, show (i + 4) / 4 = i / 4 + 1 by omega, valh, if_neg (by omega),
    org_congr c (show i % 4 % 2 = i % 2 by omega)]

/-- A slot held at a share with known contents. -/
def held (c : Dev nD) (M : Memref sig .tc .vmem S512x256 .f32) (q : PosShare TreeShare) (X : FVec F S512x256 .f32) : sProp 𝕄 :=
  M.view.loc (c : Thread nD τ) ↦[M.view.set]{q} M.view.rep X

/-- A slot held at whatever it contains. -/
def some_ (c : Dev nD) (M : Memref sig .tc .vmem S512x256 .f32) : sProp 𝕄 :=
  iprop(∃ f : Buf (Elt F) (M.view.loc (c : Thread nD τ)), M.view.loc (c : Thread nD τ) ↦[M.view.set]{fullShare} f)

/-- Device `c`'s landing slot for transfer `i`. -/
def slot (c : Dev nD) (i : ℕ) : sProp 𝕄 := some_ c (ldM i)

/-- The share of its source a transfer takes: all of a send slot, half of a landing slot it forwards. -/
def srcQ (i : ℕ) : PosShare TreeShare := match i / 16 with | 0 => fullShare | _ => fullShare.left

omit [FloatOps F] in
instance held_storable (c : Dev nD) (M : Memref sig .tc .vmem S512x256 .f32) (q : PosShare TreeShare) (X : FVec F S512x256 .f32) [∀ e, Nonempty (Elt F e)] :
    BI.Storable (upEmb : UEmb _ 𝕄) (held (F := F) c M q X) := by unfold held; infer_instance
omit [FloatOps F] in
instance slot_storable (c : Dev nD) (i : ℕ) : BI.Storable (upEmb : UEmb _ 𝕄) (slot (F := F) c i) := by unfold slot some_; infer_instance

/-! ## The schedule -/

/-- The transfers to the next device, and those to the device before. -/
def evens : Finset ℕ := (Finset.range 24).filter (· % 2 = 0)
def odds : Finset ℕ := (Finset.range 24).filter (¬ · % 2 = 0)

/-- What comes with a handshake signal: from the next device its landing slots for the transfers to it, from the device
    before likewise. -/
def barPay (c : Dev nD) (d : Bool) : sProp 𝕄 :=
  if d then bigSep evens (slot (nxt c)) else bigSep odds (slot (prv c))

/-- What comes back when transfer `i` has left: its source. -/
def sendPay (c : Dev nD) (i : ℕ) : sProp 𝕄 := held c (srcM i) (srcQ i) (val m ρ c i)
/-- What comes when transfer `i` has landed: the slot holding what was sent. -/
def recvPay (c : Dev nD) (i : ℕ) : sProp 𝕄 := held c (ldM i) fullShare (val m ρ (org c i) i)

abbrev IsBar (g : GSem nD τ sig) : Prop := g.1.2 = .tc ∧ g.2 = .reg barS
/-- The DMA semaphores of the ring. -/
def ringDma : SemLoc sig → Bool | .reg _ => false | .dma q => decide (2 ≤ q.val)
abbrev IsXfer (g : GSem nD τ sig) : Prop := g.1.2 = .tc ∧ ringDma g.2 = true

/-- The hand-over at each semaphore. -/
def pay (c : Dev nD) (d : Bool) : SemLoc sig → sProp 𝕄
  | .reg _ => barPay c d
  | .dma q => if isR q then recvPay m ρ c (dec q) else sendPay m ρ c (dec q)

instance pay_storable (c : Dev nD) (d : Bool) (s : SemLoc sig) : BI.Storable (upEmb : UEmb _ 𝕄) (pay (F := F) m ρ c d s) := by
  unfold pay barPay recvPay sendPay
  cases s <;> dsimp only <;> split <;> infer_instance

/-- One round: the barrier cell has two duties of one unit, every transfer's cell one of the transfer's credit. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := pay m ρ g.1.1 d g.2
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m ρ).payload g r d) := pay_storable m ρ _ d _

section Sched
variable (c : Dev nD)

theorem dma_ne_bar (q : DmaSem sig) : (SemLoc.dma q : SemLoc sig) ≠ .reg barS := fun h => by cases h

theorem duties_bar : (ringRd (F := F) m ρ).duties (barCell c) 0 = Finset.univ := by dsimp only [ringRd]; exact if_pos ⟨rfl, rfl, rfl⟩
theorem duties_dma {q : DmaSem sig} (hq : 2 ≤ q.val) : (ringRd (F := F) m ρ).duties ((c : Thread nD τ), .dma q) 0 = {false} := by
  dsimp only [ringRd]; rw [if_neg (fun h => dma_ne_bar q h.2.2)]; exact if_pos ⟨rfl, rfl, decide_eq_true hq⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Bool) : (ringRd (F := F) m ρ).amount (barCell c) 0 d = 1 := by dsimp only [ringRd]; exact if_pos rfl
theorem amount_dma (q : DmaSem sig) (d : Bool) : (ringRd (F := F) m ρ).amount ((c : Thread nD τ), .dma q) 0 d = N := by
  dsimp only [ringRd]; exact if_neg (dma_ne_bar q)

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma {q : DmaSem sig} (hq : 2 ≤ q.val) : (ringRd (F := F) m ρ).expect ((c : Thread nD τ), .dma q) 0 = N := by
  unfold Schedule.expect Schedule.amountOf; rw [duties_dma m ρ c hq, Finset.sum_singleton, amount_dma]

theorem payload_bar (d : Bool) : (ringRd (F := F) m ρ).payload (barCell c) 0 d = barPay c d := rfl
theorem payload_send {i : ℕ} (hi : i < 24) (d : Bool) : (ringRd (F := F) m ρ).payload (sendCell c i) 0 d = sendPay m ρ c i := by
  show (if isR (sS i) then recvPay m ρ c (dec (sS i)) else sendPay m ρ c (dec (sS i))) = _
  rw [isR_s hi, dec_s hi]; exact if_neg Bool.false_ne_true
theorem payload_recv {i : ℕ} (hi : i < 24) (d : Bool) : (ringRd (F := F) m ρ).payload (recvCell c i) 0 d = recvPay m ρ c i := by
  show (if isR (rS i) then recvPay m ρ c (dec (rS i)) else sendPay m ρ c (dec (rS i))) = _
  rw [isR_r hi, dec_r hi]; exact if_pos rfl

/-- The barrier's round hands over the landing slots of both neighbours. -/
theorem rest_bar : bigSep ((ringRd (F := F) m ρ).duties (barCell c) 0 \ ∅) (fun d => (ringRd (F := F) m ρ).payload (barCell c) 0 d)
    = iprop(bigSep evens (slot (nxt c)) ∗ bigSep odds (slot (prv c))) := by
  rw [Finset.sdiff_empty, duties_bar, bigSep_univ_eq_bigSepL [true, false] (by decide) (by decide), bigSepL_cons_cons, bigSepL_singleton,
    payload_bar, payload_bar]
  rfl
theorem rest_send {i : ℕ} (hi : i < 24) : bigSep ((ringRd (F := F) m ρ).duties (sendCell c i) 0 \ ∅) (fun d => (ringRd (F := F) m ρ).payload (sendCell c i) 0 d)
    = sendPay m ρ c i := by
  rw [Finset.sdiff_empty, duties_dma m ρ c (two_s hi), bigSep_singleton, payload_send m ρ c hi]
theorem rest_recv {i : ℕ} (hi : i < 24) : bigSep ((ringRd (F := F) m ρ).duties (recvCell c i) 0 \ ∅) (fun d => (ringRd (F := F) m ρ).payload (recvCell c i) 0 d)
    = recvPay m ρ c i := by
  rw [Finset.sdiff_empty, duties_dma m ρ c (two_r hi), bigSep_singleton, payload_recv m ρ c hi]

end Sched

/-! ## What each device owes; the levels -/

/-- What device `c` owes once it has started its first `n` transfers. -/
def Orem (c : Dev nD) (n : ℕ) : CellTallies nD τ sig Unit := ∑ j ∈ Finset.Ico n 24, tallyAt (recvCell (tgt c j) j) () N
/-- What it owes between its two handshake signals, and at launch. -/
def O₁ (c : Dev nD) : CellTallies nD τ sig Unit := Orem c 0 + tallyAt (barCell (nxt c)) () 1
def O₀ (c : Dev nD) : CellTallies nD τ sig Unit := O₁ c + tallyAt (barCell (prv c)) () 1

theorem Orem_step (c : Dev nD) {n : ℕ} (h : n < 24) : Orem c n = Orem c (n + 1) + tallyAt (recvCell (tgt c n) n) () N := by
  unfold Orem
  rw [show Finset.Ico n 24 = insert n (Finset.Ico (n + 1) 24) by ext x; simp only [Finset.mem_insert, Finset.mem_Ico]; omega,
    Finset.sum_insert (by simp only [Finset.mem_Ico]; omega), add_comm]
theorem Orem_end (c : Dev nD) : Orem c 24 = 0 := by unfold Orem; rw [Finset.Ico_self, Finset.sum_empty]

def L (g : GSem nD τ sig) : Finset Unit := if g.1.2 = .tc then {()} else ∅
/-- The level of a semaphore: the handshake below every receive, receives by round, everything else at the bottom. -/
def lvs : SemLoc sig → ℕ | .reg _ => 1 | .dma q => if isR q then 2 + dec q / 4 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_recv {i : ℕ} (hi : i < 24) : lvs (.dma (rS i)) = 2 + i / 4 := by
  show (if isR (rS i) then 2 + dec (rS i) / 4 else 0) = _
  rw [isR_r hi, dec_r hi]; exact if_pos rfl
theorem lvs_send {i : ℕ} (hi : i < 24) : lvs (.dma (sS i)) = 0 := by
  show (if isR (sS i) then 2 + dec (sS i) / 4 else 0) = _
  rw [isR_s hi]; exact if_neg Bool.false_ne_true

theorem Orem_pos {c : Dev nD} {n : ℕ} {g : GSem nD τ sig} {u : Unit} (h : 0 < Orem c n g u) :
    ∃ j, n ≤ j ∧ j < 24 ∧ g = recvCell (tgt c j) j := by
  unfold Orem at h
  rw [Finset.sum_apply, Finsupp.finset_sum_apply] at h
  obtain ⟨j, hj, h⟩ := Finset.exists_ne_zero_of_sum_ne_zero (Nat.pos_iff_ne_zero.mp h)
  rw [tallyAt_apply] at h
  have hj := Finset.mem_Ico.mp hj
  refine ⟨j, hj.1, hj.2, ?_⟩
  by_contra hn
  exact h (if_neg fun h' => hn h'.1)

theorem O₀_pos {c : Dev nD} {g : GSem nD τ sig} {u : Unit} (h : 0 < O₀ c g u) :
    (∃ j, j < 24 ∧ g = recvCell (tgt c j) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  rw [Nat.add_zero] at h
  obtain ⟨j, -, hj, hg⟩ := Orem_pos h
  exact hn.1 ⟨j, hj, hg⟩

/-- A device that has started its first `n` transfers may wait on a semaphore below those of the rest. -/
theorem mayWait_ring (c : Dev nD) (sm : SemLoc sig) (n : ℕ) (h : lvs sm < 2 + n / 4) :
    (levAts L lv : sProp 𝕄) ⊢ MayWait (c : Thread nD τ) sm () (Orem c n) :=
  MayOwe.of_cut (L := L) (lev := lv) (lvs sm) (fun p hp => by rw [Finset.mem_singleton.mp hp, L_tc]; exact Finset.mem_singleton_self _)
    (fun g u hg => by obtain ⟨j, -, -, rfl⟩ := Orem_pos hg; exact Finset.mem_singleton_self _)
    (fun p hp => by rw [Finset.mem_singleton.mp hp]; exact Nat.le_refl _)
    (fun g u hg => by
      obtain ⟨j, hn, hj, rfl⟩ := Orem_pos hg
      show lvs sm < lvs (.dma (rS j))
      rw [lvs_recv hj]
      have := Nat.div_le_div_right (c := 4) hn
      omega)

theorem mayWait_stage (c : Dev nD) (q : DmaSem sig) (hq : isR q = false) (O : CellTallies nD τ sig Unit) (hO : O = O₀ c ∨ O = 0) :
    (levAts L lv : sProp 𝕄) ⊢ MayWait (c : Thread nD τ) (.dma q) () O := by
  have h0 : lvs (.dma q) = 0 := by show (if isR q then 2 + dec q / 4 else 0) = 0; rw [hq]; exact if_neg Bool.false_ne_true
  rcases hO with rfl | rfl
  · refine MayOwe.of_cut (L := L) (lev := lv) 0 (fun p hp => by rw [Finset.mem_singleton.mp hp, L_tc]; exact Finset.mem_singleton_self _)
      (fun g u hg => by rcases O₀_pos hg with ⟨j, -, rfl⟩ | rfl | rfl <;> exact Finset.mem_singleton_self _)
      (fun p hp => by rw [Finset.mem_singleton.mp hp]; exact Nat.le_of_eq h0)
      (fun g u hg => by
        rcases O₀_pos hg with ⟨j, hj, rfl⟩ | rfl | rfl
        · show 0 < lvs (.dma (rS j)); rw [lvs_recv hj]; omega
        · exact Nat.one_pos
        · exact Nat.one_pos)
  · rw [MayWait_zero]; iintro -; iempintro

end Cert.KernelIdealRing

end
-- ==== Proof.KernelIdealRules.lean ====
/-
# One rule for every operation of a step

What each operation of the body needs and leaves, stated once for every transfer `i`: filling a send slot, starting a
transfer, the two waits, adding a block of the input to what landed, writing a block of the result.
-/
module

public import proofs.«01_k».proof.Proof.KernelIdealSched
public import Idealize.ShloMosaic.Lib.Pipeline.Value

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c`, run to the postcondition `Q`. -/
abbrev runs (c : Dev nD) (p : StepP F) (Q : PUnit.{1} → sProp 𝕄) : sProp 𝕄 :=
  wp frame (wpE (defs₀ (F := F)) 𝒱₀ (c : Thread nD τ) none) Set.univ p Q

variable (c : Dev nD)

/-! ## The slots -/

theorem ld_set (i : ℕ) : (ldM i).view.set = ((ldB i).view.slice (ldR i)).set := Memref.set_view_squeeze _ _
theorem sb_set (i : ℕ) : (sbM i).view.set = ((sbB i).view.slice (sbR i)).set := Memref.set_view_squeeze _ _

theorem ld_load (i : ℕ) : (ldB i).view.setOn (ldR i).toLoadRect.set ⊆ (ldM i).view.set := by
  rw [ld_set, View.set_slice]; exact subset_rfl
theorem sb_load (i : ℕ) : (sbB i).view.setOn (sbR i).toLoadRect.set ⊆ (sbM i).view.set := by
  rw [sb_set, View.set_slice]; exact subset_rfl
theorem sb_store (i : ℕ) : ((sbB i).access (sbR i)).setOn Finset.univ ⊆ (sbM i).view.set := by
  rw [sb_set]; exact subset_rfl

/-- What a load of a landing slot reads. -/
theorem ld_read (i : ℕ) (X : FVec F S512x256 .f32) :
    shapeCast S512x256 ((ldB i).view.readAt (Elt F) (ldR i).toLoadRect ((ldM i).view.rep X)) shapeCasts_S1x1x512x256_S512x256 = X :=
  View.read_rep (Val := Elt F) (ldM i).view X

/-- A send slot after a store. -/
theorem sb_write (i : ℕ) (f : Buf (Elt F) ((sbB i).view.loc (c : Thread nD τ))) (v : FVec F S512x256 .f32) :
    ((sbM i).view.loc (c : Thread nD τ) ↦[(sbM i).view.set]{fullShare}
        ((sbB i).access (sbR i)).write (Elt F) f (shapeCast S1x512x256 v shapeCasts_S512x256_S1x512x256) Finset.univ : sProp 𝕄)
      ⊢ held c (sbM i) fullShare v := by
  refine (pointsTo_rep_entails (c : Thread nD τ) (sbM i) _ fullShare).trans (Entails.of_eq ?_)
  unfold held
  refine congrArg (fun X => ((sbM i).view.loc (c : Thread nD τ) ↦[(sbM i).view.set]{fullShare} (sbM i).view.rep X : sProp 𝕄)) ?_
  have h := View.read_write_univ (Val := Elt F) (v := (sbB i).access (sbR i)) f (shapeCast S1x512x256 v shapeCasts_S512x256_S1x512x256)
  show shapeCast S512x256 (((sbB i).access (sbR i)).read (Elt F) _) shapeCasts_S1x512x256_S512x256 = v
  rw [h]
  exact shapeCast_shapeCast v _ _

theorem held_some (M : Memref sig .tc .vmem S512x256 .f32) (X : FVec F S512x256 .f32) :
    (held c M fullShare X : sProp 𝕄) ⊢ some_ c M := by
  unfold held some_; iintro H; iexists _; iexact H

/-- A slot held whole is held in two halves. -/
theorem held_halves (M : Memref sig .tc .vmem S512x256 .f32) (X : FVec F S512x256 .f32) :
    (held c M fullShare X : sProp 𝕄) ⊢ iprop(held c M fullShare.left X ∗ held c M fullShare.right X) := by
  unfold held; exact (pointsTo_share (PosShare.mem_left_op_right fullShare)).1

/-! ## The staged input and the result -/

/-- The staged input, held. -/
def xPts : sProp 𝕄 := ((c : Thread nD τ).loc cc0_stg0_0) ↦{fullShare} xstg m ρ c
/-- The result's buffer, held at contents `f`. -/
def oPts (f : (cc0_stg1_0 : Ref sig .tc).ty.Contents (Elt F)) : sProp 𝕄 := ((c : Thread nD τ).loc cc0_stg1_0) ↦{fullShare} f

/-- The block of the result device `c` writes in step `i`: its rows move with the transfers. -/
def oo (i : ℕ) : Fin 2 → ℕ :=
  ![512 * ((c.val + (if i % 2 = 0 then 7 - i / 4 else i / 4 + 1)) % 4), 512 * (i % 2) + 256 * stx i]

theorem oo_inb (i : ℕ) : InbO (oo c i) := by
  have h1 := stx_lt i
  have h2 : i % 2 < 2 := Nat.mod_lt _ (by decide)
  have h3 : (c.val + (if i % 2 = 0 then 7 - i / 4 else i / 4 + 1)) % 4 < 4 := Nat.mod_lt _ (by decide)
  intro a; fin_cases a
  · show 512 * ((c.val + (if i % 2 = 0 then 7 - i / 4 else i / 4 + 1)) % 4) + 512 ≤ 2048; omega
  · show 512 * (i % 2) + 256 * stx i + 256 ≤ 1024; omega

/-- The result's buffer after step `i` wrote `v`. -/
def wr (i : ℕ) (f : (cc0_stg1_0 : Ref sig .tc).ty.Contents (Elt F)) (v : FVec F S512x256 .f32) :
    (cc0_stg1_0 : Ref sig .tc).ty.Contents (Elt F) :=
  (oM.access (Rect.unit (s := S2048x1024) (oo c i) S512x256.size (oo_inb c i))).write (Elt F) f v Finset.univ

/-! ## The rules -/

theorem wp_fill {k : StepP F} {Q : PUnit.{1} → sProp 𝕄} {i : ℕ} {xo' : Fin 3 → ℕ} {hx : InbX xo'} (j : ℕ) (ho : xo' = xo c j) :
    iprop(xPts m ρ c ∗ some_ c (sbM i))
      ⊢ iprop(((xPts m ρ c ∗ held c (sbM i) fullShare (xblk m ρ c j)) -∗ runs c k Q) -∗ runs c (fillP i xo' hx k) Q) := by
  subst ho
  unfold xPts some_ fillP
  iintro ⟨Hx, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := sbB i) (sb_load i)) $$ Hs; iintro Hs
  iapply (wp_store 𝒱₀ (c : Thread nD τ) none Set.univ (m := sbB i) (r := sbR i) (Mk := Finset.univ) (sb_store i)) $$ Hs; iintro Hs
  iapply Hk
  isplitl [Hx]; · iexact Hx
  iapply (sb_write c i f _); iexact Hs

theorem wp_put {k : StepP F} {Q : PUnit.{1} → sProp 𝕄} {i : ℕ} (v : FVec F S512x256 .f32) :
    (some_ c (sbM i) : sProp 𝕄) ⊢ iprop((held c (sbM i) fullShare v -∗ runs c k Q) -∗ runs c (putP i v k) Q) := by
  unfold some_ putP
  iintro ⟨%f, Hs⟩ Hk
  iapply (wp_load 𝒱₀ (c : Thread nD τ) none Set.univ (m := sbB i) (sb_load i)) $$ Hs; iintro Hs
  iapply (wp_store 𝒱₀ (c : Thread nD τ) none Set.univ (m := sbB i) (r := sbR i) (Mk := Finset.univ) (sb_store i)) $$ Hs; iintro Hs
  iapply Hk
  iapply (sb_write c i f _); iexact Hs

theorem wp_sum {Q : PUnit.{1} → sProp 𝕄} {i : ℕ} {xo' : Fin 3 → ℕ} {hx : InbX xo'} {kk : FVec F S512x256 .f32 → StepP F} (q : PosShare TreeShare)
    (X : FVec F S512x256 .f32) (j : ℕ) (ho : xo' = xo c j) :
    iprop(xPts m ρ c ∗ held c (ldM i) q X)
      ⊢ iprop(((xPts m ρ c ∗ held c (ldM i) q X) -∗ runs c (kk (addf X (xblk m ρ c j))) Q) -∗ runs c (sumP i xo' hx kk) Q) := by
  subst ho
  unfold xPts sumP
  iintro ⟨Hx, Hs⟩ Hk
  unfold held
  iapply (wp_load 𝒱₀ (c : Thread nD τ) none Set.univ (m := ldB i) (ld_load i)) $$ Hs; iintro Hs
  rw [ld_read]
  iapply (wp_load 𝒱₀ (c : Thread nD τ) none Set.univ (m := xM) (Finset.subset_univ _)) $$ Hx; iintro Hx
  iapply Hk
  isplitl [Hx]; · iexact Hx
  iexact Hs

theorem wp_out {k : StepP F} {Q : PUnit.{1} → sProp 𝕄} {oo' : Fin 2 → ℕ} {ho' : InbO oo'} (v : FVec F S512x256 .f32) (f : (cc0_stg1_0 : Ref sig .tc).ty.Contents (Elt F)) (i : ℕ) (ho : oo' = oo c i) :
    (oPts c f : sProp 𝕄) ⊢ iprop((oPts c (wr c i f v) -∗ runs c k Q) -∗ runs c (outP oo' ho' v k) Q) := by
  subst ho
  unfold oPts outP
  iintro Ho Hk
  iapply (wp_load 𝒱₀ (c : Thread nD τ) none Set.univ (m := oM) (Finset.subset_univ _)) $$ Ho; iintro Ho
  iapply (wp_store 𝒱₀ (c : Thread nD τ) none Set.univ (m := oM) (r := Rect.unit (s := S2048x1024) (oo c i) S512x256.size (oo_inb c i)) (Mk := Finset.univ) (Finset.subset_univ _)) $$ Ho; iintro Ho
  iapply Hk; iexact Ho

theorem wp_copy {k : StepP F} {Q : PUnit.{1} → sProp 𝕄} {i : ℕ} {oo' : Fin 2 → ℕ} {ho' : InbO oo'} (q : PosShare TreeShare) (X : FVec F S512x256 .f32)
    (f : (cc0_stg1_0 : Ref sig .tc).ty.Contents (Elt F)) (ho : oo' = oo c i) :
    iprop(oPts c f ∗ held c (ldM i) q X)
      ⊢ iprop(((oPts c (wr c i f X) ∗ held c (ldM i) q X) -∗ runs c k Q) -∗ runs c (copyP i oo' ho' k) Q) := by
  unfold copyP
  iintro ⟨Ho, Hs⟩ Hk
  unfold held
  iapply (wp_load 𝒱₀ (c : Thread nD τ) none Set.univ (m := ldB i) (ld_load i)) $$ Hs; iintro Hs
  rw [ld_read]
  iapply (wp_out c X f i ho) $$ Ho
  iintro Ho
  iapply Hk
  isplitl [Ho]; · iexact Ho
  iexact Hs

/-! ## The transfers -/

/-- A cell's invariant, under some name, and that its first round is reached. -/
def known (g : GSem nD τ sig) : sProp 𝕄 := iprop(∃ κ : ℕ, cellInv ER (ringRd m ρ) κ g ∗ reached ER g 0)
instance known_persistent (g : GSem nD τ sig) : BI.Persistent (known m ρ g) := by unfold known; infer_instance

/-- What device `c` owes with its first `n` transfers started. -/
def owesE (n : ℕ) : sProp 𝕄 := iprop(∃ W, owes (c : Thread nD τ) (Orem c n) W)

/-- Transfer `i` before it starts: the positions, the credit to wait with, the two duties, the slot it lands in. -/
def unsent (i : ℕ) : sProp 𝕄 :=
  iprop(atPos ER (sendCell c i) 0 ∅ 0 ∗ atPos ER (recvCell c i) 0 ∅ 0 ∗ cred (tallyAt (recvCell c i) () N)
    ∗ dutyTok ER (sendCell c i) 0 false ∗ dutyTok ER (recvCell (tgt c i) i) 0 false ∗ slot (tgt c i) i)
/-- In flight: the positions and the credits of both waits. -/
def flying (i : ℕ) : sProp 𝕄 :=
  iprop(atPos ER (sendCell c i) 0 ∅ 0 ∗ atPos ER (recvCell c i) 0 ∅ 0 ∗ cred (tallyAt (recvCell c i) () N) ∗ cred (tallyAt (sendCell c i) () N))
/-- Done: both counters back at zero. -/
def closed (i : ℕ) : sProp 𝕄 := iprop(semVal (sendCell c i) 0 ∗ semVal (recvCell c i) 0)

set_option maxHeartbeats 800000 in
theorem wp_sendP {k : StepP F} {Q : PUnit.{1} → sProp 𝕄} {i : ℕ} {d : Dev nD} (hi : i < 24) (hd : d = tgt c i) :
    iprop(known m ρ (sendCell c i) ∗ known m ρ (recvCell (tgt c i) i) ∗ unsent c i ∗ sendPay m ρ c i ∗ owesE c i)
      ⊢ iprop(((flying c i ∗ owesE c (i + 1)) -∗ runs c k Q) -∗ runs c (sendP i d k) Q) := by
  subst hd
  unfold known unsent flying sendPay owesE slot some_ sendP held
  iintro ⟨⟨%κ₁, #HI₁, #Hr₁⟩, ⟨%κ₂, #HI₂, #Hr₂⟩, ⟨HaS, HaR, HcR, HtS, HtR, ⟨%fd, Hd⟩⟩, Hs, ⟨%W, HO⟩⟩ Hk
  iapply (Rounds.wp_send_pointsTo 𝒱₀ ER (ringRd m ρ) (c : Thread nD τ) none (c' := (tgt c i : Thread nD τ)) (src := srcM i) (dst := ldM i) (κ₁ := κ₁) (κ₂ := κ₂)
    (r₁ := 0) (r₂ := 0) (d₁ := false) (d₂ := false) (fd := fd) (q := srcQ i) (fs := (srcM i).view.rep (val m ρ c i))
    (by rw [duties_dma m ρ c (two_s hi)]; exact Finset.mem_singleton_self _) (by rw [duties_dma m ρ _ (two_r hi)]; exact Finset.mem_singleton_self _)
    () () N (show (ldM i).view.amount (.dma (rS i)) = N from ld_credit i) (amount_dma m ρ c _ false) (amount_dma m ρ _ _ false) (Orem c (i + 1)) (Orem_step c hi) (W := W)
    (by rw [payload_send m ρ c hi]; exact BI.Entails.refl _)
    (by
      rw [payload_recv m ρ _ hi]; unfold recvPay held
      refine (pointsTo_rep_entails (tgt c i : Thread nD τ) (ldM i) _ fullShare).trans (Entails.of_eq ?_)
      rw [View.read_write_univ, View.read_rep, org_tgt])) $$ [Hs Hd HO HtS HtR]
  · isplitr; · iexact HI₁
    isplitr; · iexact HI₂
    isplitl [Hs]; · iexact Hs
    isplitl [Hd]; · iexact Hd
    isplitl [HO]; · iexact HO
    isplitl [HtS]; · iexact HtS
    isplitr; · iexact Hr₁
    isplitl [HtR]; · iexact HtR
    iexact Hr₂
  iintro ⟨HcS, HO⟩
  iapply Hk
  isplitl [HaS HaR HcR HcS]
  · isplitl [HaS]; · iexact HaS
    isplitl [HaR]; · iexact HaR
    isplitl [HcR]; · iexact HcR
    iexact HcS
  iexists W; iexact HO

set_option maxHeartbeats 800000 in
theorem wp_waitP {k : StepP F} {Q : PUnit.{1} → sProp 𝕄} {i n : ℕ} (hi : i < 24) (hn : i / 4 < n / 4) :
    iprop(known m ρ (sendCell c i) ∗ known m ρ (recvCell c i) ∗ levAts L lv ∗ flying c i ∗ owesE c n)
      ⊢ iprop(((closed c i ∗ sendPay m ρ c i ∗ recvPay m ρ c i ∗ owesE c n) -∗ runs c k Q) -∗ runs c (waitP i k) Q) := by
  unfold known flying closed owesE waitP
  iintro ⟨⟨%κ₁, #HI₁, #Hr₁⟩, ⟨%κ₂, #HI₂, #Hr₂⟩, #Hlev, ⟨HaS, HaR, HcR, HcS⟩, ⟨%W, HO⟩⟩ Hk
  iapply (Rounds.wp_wait_rest_token 𝒱₀ ER (ringRd m ρ) (c : Thread nD τ) none (κ := κ₁)
      (wpE_waitDma2_eq 𝒱₀ (c : Thread nD τ) none Set.univ) (Set.mem_univ _) () (O := Orem c n) (W := W) (R := 0) (m := 0) (T := ∅)
      (by rw [Nat.zero_add, expect_dma m ρ c (two_s hi)])) $$ [HcS HO HaS]
  · isplitr; · iexact HI₁
    isplitl [HcS]; · rw [src_credit i]; iexact HcS
    isplitl [HO]; · iexact HO
    isplitr; · iapply (mayWait_ring c (.dma (sS i)) n (by rw [lvs_send hi]; omega)); iexact Hlev
    iexact HaS
  iintro ⟨HO, HaS, -, Hpay⟩
  ihave HsP := (Entails.of_eq (rest_send m ρ c hi)) $$ Hpay
  iapply (Rounds.wp_wait_rest_token 𝒱₀ ER (ringRd m ρ) (c : Thread nD τ) none (κ := κ₂)
      (wpE_waitDma2_eq 𝒱₀ (c : Thread nD τ) none Set.univ) (Set.mem_univ _) () (O := Orem c n) (R := 0) (m := 0) (T := ∅)
      (by rw [Nat.zero_add, expect_dma m ρ c (two_r hi)])) $$ [HcR HO HaR]
  · isplitr; · iexact HI₂
    isplitl [HcR]; · rw [ld_credit i]; iexact HcR
    isplitl [HO]; · iexact HO
    isplitr; · iapply (mayWait_ring c (.dma (rS i)) n (by rw [lvs_recv hi]; omega)); iexact Hlev
    iexact HaR
  iintro ⟨HO, HaR, -, Hpay⟩
  ihave HrP := (Entails.of_eq (rest_recv m ρ c hi)) $$ Hpay
  imod (Rounds.cell_close ER (ringRd m ρ) (Set.mem_univ κ₁) (fun h => h) (R := 0 + 1) (duties_later m ρ (sendCell c i))) $$ [HaS] with HzS
  · isplitr; · iexact HI₁
    iexact HaS
  imod (Rounds.cell_close ER (ringRd m ρ) (Set.mem_univ κ₂) (fun h => h) (R := 0 + 1) (duties_later m ρ (recvCell c i))) $$ [HaR] with HzR
  · isplitr; · iexact HI₂
    iexact HaR
  iapply Hk
  isplitl [HzS HzR]
  · isplitl [HzS]; · iexact HzS
    iexact HzR
  isplitl [HsP]; · iexact HsP
  isplitl [HrP]; · iexact HrP
  iexists _; iexact HO

end Cert.KernelIdealRing

end
-- ==== Proof.KernelIdealSteps.lean ====
/-
# The steps, and the body from handshake to end

The state between two steps, one lemma for every kind of step, and the body run through all of them.
-/
module

public import proofs.«01_k».proof.Proof.KernelIdealRules

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, all known to every device -/

/-- A device's semaphores of the ring: the handshake's, and for each transfer the send and the receive one. -/
abbrev CellIx : Type := Option (Fin 24 × Bool)
abbrev csem : CellIx → SemLoc sig
  | none => .reg barS
  | some (i, false) => .dma (sS i.val)
  | some (i, true) => .dma (rS i.val)
abbrev kcell (ck : Dev nD × CellIx) : GSem nD τ sig := ((ck.1 : Thread nD τ), csem ck.2)

/-- Every cell of the ring is known. -/
def recs : sProp 𝕄 := bigSep Finset.univ fun ck : Dev nD × CellIx => known m ρ (kcell ck)
instance recs_persistent : BI.Persistent (recs m ρ) := by unfold recs; infer_instance

theorem recs_at (ck : Dev nD × CellIx) : recs m ρ ⊢ known m ρ (kcell ck) := bigSep_elim (Finset.mem_univ ck)
theorem recs_bar (c : Dev nD) : recs m ρ ⊢ known m ρ (barCell c) :=
  (recs_at m ρ (c, none)).trans (Entails.of_eq (congrArg (known m ρ) (show kcell (c, none) = barCell c from rfl)))
theorem recs_send (c : Dev nD) {i : ℕ} (hi : i < 24) : recs m ρ ⊢ known m ρ (sendCell c i) :=
  (recs_at m ρ (c, some (⟨i, hi⟩, false))).trans (Entails.of_eq (congrArg (known m ρ) (show kcell (c, some (⟨i, hi⟩, false)) = sendCell c i from rfl)))
theorem recs_recv (c : Dev nD) {i : ℕ} (hi : i < 24) : recs m ρ ⊢ known m ρ (recvCell c i) :=
  (recs_at m ρ (c, some (⟨i, hi⟩, true))).trans (Entails.of_eq (congrArg (known m ρ) (show kcell (c, some (⟨i, hi⟩, true)) = recvCell c i from rfl)))

/-- What every device knows throughout: the cells and the levels. -/
def ctx : sProp 𝕄 := iprop(recs m ρ ∗ levAts L lv)
instance ctx_persistent : BI.Persistent (ctx m ρ) := by unfold ctx; infer_instance

/-! ## The state -/

variable (c : Dev nD)

/-- A slot held at a share at whatever it contains. -/
def someq (M : Memref sig .tc .vmem S512x256 .f32) (q : PosShare TreeShare) : sProp 𝕄 :=
  iprop(∃ f : Buf (Elt F) (M.view.loc (c : Thread nD τ)), M.view.loc (c : Thread nD τ) ↦[M.view.set]{q} f)

theorem held_someq (M : Memref sig .tc .vmem S512x256 .f32) (q : PosShare TreeShare) (X : FVec F S512x256 .f32) :
    (held c M q X : sProp 𝕄) ⊢ someq c M q := by unfold held someq; iintro H; iexists _; iexact H

/-- The slots that stay with device `c` once transfer `j` is done. -/
def kept (j : ℕ) : sProp 𝕄 :=
  if j < 12 then someq c (ldM j) fullShare
  else if j < 16 then iprop(someq c (sbM j) fullShare ∗ someq c (ldM j) fullShare.right)
  else if j < 20 then iprop(someq c (ldM (j - 4)) fullShare.left ∗ someq c (ldM j) fullShare.right)
  else iprop(someq c (ldM (j - 4)) fullShare.left ∗ someq c (ldM j) fullShare)

def done (j : ℕ) : sProp 𝕄 := iprop(closed c j ∗ kept c j)

/-- Transfer `j` with `n` transfers started and `i` done. -/
def tr (n i j : ℕ) : sProp 𝕄 := if n ≤ j then unsent c j else if i ≤ j then flying c j else done c j

/-- All transfers. -/
def St (n i : ℕ) : sProp 𝕄 := bigSep (Finset.range 24) (tr (F := F) c n i)

/-- One place of a family is taken out and put back with another content, the other places being the same. -/
theorem bigSep_swap {s : Finset ℕ} {i : ℕ} (hi : i ∈ s) {Φ Ψ : ℕ → sProp 𝕄} (h : ∀ j ∈ s.erase i, Φ j = Ψ j) :
    bigSep s Φ ⊢ iprop(Φ i ∗ (Ψ i -∗ bigSep s Ψ)) := by
  have e (Θ : ℕ → sProp 𝕄) : bigSep s Θ = iprop(Θ i ∗ bigSep (s.erase i) Θ) := bigSep_erase hi
  rw [e Φ, e Ψ, bigSep_congr h]
  iintro ⟨H, HR⟩
  isplitl [H]; · iexact H
  iintro H'
  isplitl [H']; · iexact H'
  iexact HR

theorem tr_unsent {n i j : ℕ} (h : n ≤ j) : (tr c n i j : sProp 𝕄) = unsent c j := if_pos h
theorem tr_flying {n i j : ℕ} (h : j < n) (h' : i ≤ j) : (tr c n i j : sProp 𝕄) = flying c j :=
  (if_neg (Nat.not_le.mpr h)).trans (if_pos h')
theorem tr_done {n i j : ℕ} (h : j < n) (h' : j < i) : (tr c n i j : sProp 𝕄) = done c j :=
  (if_neg (Nat.not_le.mpr h)).trans (if_neg (Nat.not_le.mpr h'))

theorem St_send {n i : ℕ} (hn : n < 24) (hi : i ≤ n) : (St c n i : sProp 𝕄) ⊢ iprop(unsent c n ∗ (flying c n -∗ St c (n + 1) i)) := by
  unfold St
  rw [← tr_unsent (F := F) c (n := n) (i := i) (Nat.le_refl n), ← tr_flying (F := F) c (n := n + 1) (Nat.lt_succ_self n) hi]
  refine bigSep_swap (Finset.mem_range.mpr hn) fun j hj => ?_
  have hj := (Finset.mem_erase.mp hj).1
  unfold tr
  split_ifs <;> first | rfl | omega

theorem St_wait {n i : ℕ} (hi : i < 24) (hn : i < n) : (St c n i : sProp 𝕄) ⊢ iprop(flying c i ∗ (done c i -∗ St c n (i + 1))) := by
  unfold St
  rw [← tr_flying (F := F) c hn (Nat.le_refl i), ← tr_done (F := F) c (i := i + 1) hn (Nat.lt_succ_self i)]
  refine bigSep_swap (Finset.mem_range.mpr hi) fun j hj => ?_
  have hj := (Finset.mem_erase.mp hj).1
  unfold tr
  split_ifs <;> first | rfl | omega

theorem St_both {n i : ℕ} (hn : n < 24) (hi : i < n) :
    (St c n i : sProp 𝕄) ⊢ iprop(flying c i ∗ unsent c n ∗ ((done c i ∗ flying c n) -∗ St c (n + 1) (i + 1))) := by
  have e (Θ : ℕ → sProp 𝕄) : bigSep (Finset.range 24) Θ = iprop(Θ i ∗ bigSep ((Finset.range 24).erase i) Θ) :=
    bigSep_erase (Finset.mem_range.mpr (by omega))
  unfold St
  rw [← tr_flying (F := F) c hi (Nat.le_refl i), ← tr_done (F := F) c (n := n + 1) (i := i + 1) (by omega) (Nat.lt_succ_self i),
    ← tr_unsent (F := F) c (n := n) (i := i) (Nat.le_refl n), ← tr_flying (F := F) c (n := n + 1) (i := i + 1) (Nat.lt_succ_self n) hi,
    e (tr c n i), e (tr c (n + 1) (i + 1))]
  have hB := bigSep_swap (F := F) (s := (Finset.range 24).erase i) (i := n) (Φ := tr c n i) (Ψ := tr c (n + 1) (i + 1))
    (Finset.mem_erase.mpr ⟨by omega, Finset.mem_range.mpr hn⟩) fun j hj => by
      have hj' := (Finset.mem_erase.mp hj).1
      have hj'' := (Finset.mem_erase.mp (Finset.mem_erase.mp hj).2).1
      unfold tr
      split_ifs <;> first | rfl | omega
  iintro ⟨H, HR⟩
  isplitl [H]; · iexact H
  ihave HR := hB $$ HR
  icases HR with ⟨H, HR⟩
  isplitl [H]; · iexact H
  iintro ⟨H', H2'⟩
  isplitl [H']; · iexact H'
  iapply HR; iexact H2'

/-- The state between two steps: `n` transfers started, `i` done, the result's buffer at `f`. -/
def Rg (n i : ℕ) (f : (cc0_stg1_0 : Ref sig .tc).ty.Contents (Elt F)) : sProp 𝕄 :=
  iprop(ctx m ρ ∗ St c n i ∗ owesE c n ∗ xPts m ρ c ∗ oPts c f)

/-! ## The sources -/

theorem sendPay_lo {i : ℕ} (h : i < 16) : sendPay (F := F) m ρ c i = held c (sbM i) fullShare (val m ρ c i) := by
  unfold sendPay srcM srcQ; rw [Nat.div_eq_of_lt h]; rfl
theorem sendPay_hi {i : ℕ} (h : 16 ≤ i) (h' : i < 24) : sendPay (F := F) m ρ c i = held c (ldM (i - 4)) fullShare.left (val m ρ c i) := by
  unfold sendPay srcM srcQ; rw [show i / 16 = 1 by omega]; rfl
theorem sb_next {i : ℕ} (h : i < 12) : sbM (i + 4) = sbM i := by
  have hA : ∀ j : Fin 12, sbM (j.val + 4) = sbM j.val := by intro j; fin_cases j <;> rfl
  exact hA ⟨i, h⟩

/-! ## The steps -/

section Steps
variable {k : StepP F} {d : Dev nD} {f : (cc0_stg1_0 : Ref sig .tc).ty.Contents (Elt F)}

set_option maxHeartbeats 1000000 in
/-- A step of rounds 0 and 1. -/
theorem rs_step {Q : PUnit.{1} → sProp 𝕄} (i : ℕ) (hi : i < 8) {xo' : Fin 3 → ℕ} {hx : InbX xo'} (ho : xo' = xo c (i + 4)) (hd : d = tgt c (i + 4))
    (h : Rg m ρ c (i + 5) (i + 1) f ⊢ runs c k Q) : Rg m ρ c (i + 4) i f ⊢ runs c (rsP i xo' hx d k) Q := by
  unfold Rg ctx rsP
  iintro ⟨⟨#Hrec, #Hlev⟩, HSt, HO, Hx, Ho⟩
  ihave H := (St_both (F := F) c (n := i + 4) (i := i) (by omega) (by omega)) $$ HSt
  icases H with ⟨Hf, Hu, Hback⟩
  iapply (wp_waitP m ρ c (i := i) (n := i + 4) (by omega) (by omega)) $$ [Hf HO]
  · isplitr; · iapply (recs_send m ρ c (i := i) (by omega)); iexact Hrec
    isplitr; · iapply (recs_recv m ρ c (i := i) (by omega)); iexact Hrec
    isplitr; · iexact Hlev
    isplitl [Hf]; · iexact Hf
    iexact HO
  iintro ⟨Hz, Hs, Hr, HO⟩
  unfold recvPay
  iapply (wp_sum m ρ c (i := i) fullShare _ (i + 4) ho) $$ [Hx Hr]
  · isplitl [Hx]; · iexact Hx
    iexact Hr
  iintro ⟨Hx, Hr⟩
  rw [← val_sum m ρ c (by omega)]
  ihave Hs := (Entails.of_eq (sendPay_lo m ρ c (i := i) (by omega))) $$ Hs
  ihave Hs := (held_some c (sbM i) _) $$ Hs
  iapply (wp_put c (i := i) _) $$ Hs
  iintro Hs
  iapply (wp_sendP m ρ c (i := i + 4) (by omega) hd) $$ [Hu Hs HO]
  · isplitr; · iapply (recs_send m ρ c (i := i + 4) (by omega)); iexact Hrec
    isplitr; · iapply (recs_recv m ρ _ (i := i + 4) (by omega)); iexact Hrec
    isplitl [Hu]; · iexact Hu
    isplitl [Hs]; · rw [sendPay_lo m ρ c (by omega), sb_next (by omega)]; iexact Hs
    iexact HO
  iintro ⟨Hf, HO⟩
  iapply h
  unfold Rg ctx
  isplitr
  · isplitr; · iexact Hrec
    iexact Hlev
  isplitl [Hback Hf Hz Hr]
  · iapply Hback
    isplitl [Hz Hr]
    · unfold done
      isplitl [Hz]; · iexact Hz
      unfold kept; rw [if_pos (by omega)]
      iapply (held_someq c (ldM i) fullShare _); iexact Hr
    iexact Hf
  isplitl [HO]; · iexact HO
  isplitl [Hx]; · iexact Hx
  iexact Ho

set_option maxHeartbeats 1000000 in
/-- A step of round 2. -/
theorem turn_step {Q : PUnit.{1} → sProp 𝕄} (i : ℕ) (hl : 8 ≤ i) (hi : i < 12) {xo' : Fin 3 → ℕ} {hx : InbX xo'} {oo' : Fin 2 → ℕ} {ho' : InbO oo'}
    (hxo : xo' = xo c (i + 4)) (ho : oo' = oo c i) (hd : d = tgt c (i + 4))
    (h : Rg m ρ c (i + 5) (i + 1) (wr c i f (val m ρ c (i + 4))) ⊢ runs c k Q) : Rg m ρ c (i + 4) i f ⊢ runs c (turnP i xo' hx oo' ho' d k) Q := by
  unfold Rg ctx turnP
  iintro ⟨⟨#Hrec, #Hlev⟩, HSt, HO, Hx, Ho⟩
  ihave H := (St_both (F := F) c (n := i + 4) (i := i) (by omega) (by omega)) $$ HSt
  icases H with ⟨Hf, Hu, Hback⟩
  iapply (wp_waitP m ρ c (i := i) (n := i + 4) (by omega) (by omega)) $$ [Hf HO]
  · isplitr; · iapply (recs_send m ρ c (i := i) (by omega)); iexact Hrec
    isplitr; · iapply (recs_recv m ρ c (i := i) (by omega)); iexact Hrec
    isplitr; · iexact Hlev
    isplitl [Hf]; · iexact Hf
    iexact HO
  iintro ⟨Hz, Hs, Hr, HO⟩
  unfold recvPay
  iapply (wp_sum m ρ c (i := i) fullShare _ (i + 4) hxo) $$ [Hx Hr]
  · isplitl [Hx]; · iexact Hx
    iexact Hr
  iintro ⟨Hx, Hr⟩
  rw [← val_sum m ρ c (by omega)]
  ihave Hs := (Entails.of_eq (sendPay_lo m ρ c (i := i) (by omega))) $$ Hs
  iapply (wp_out c _ f i ho) $$ Ho
  iintro Ho
  ihave Hs := (held_some c (sbM i) _) $$ Hs
  iapply (wp_put c (i := i) _) $$ Hs
  iintro Hs
  iapply (wp_sendP m ρ c (i := i + 4) (by omega) hd) $$ [Hu Hs HO]
  · isplitr; · iapply (recs_send m ρ c (i := i + 4) (by omega)); iexact Hrec
    isplitr; · iapply (recs_recv m ρ _ (i := i + 4) (by omega)); iexact Hrec
    isplitl [Hu]; · iexact Hu
    isplitl [Hs]; · rw [sendPay_lo m ρ c (by omega), sb_next (by omega)]; iexact Hs
    iexact HO
  iintro ⟨Hf, HO⟩
  iapply h
  unfold Rg ctx
  isplitr
  · isplitr; · iexact Hrec
    iexact Hlev
  isplitl [Hback Hf Hz Hr]
  · iapply Hback
    isplitl [Hz Hr]
    · unfold done
      isplitl [Hz]; · iexact Hz
      unfold kept; rw [if_pos (by omega)]
      iapply (held_someq c (ldM i) fullShare _); iexact Hr
    iexact Hf
  isplitl [HO]; · iexact HO
  isplitl [Hx]; · iexact Hx
  iexact Ho

/-- What comes back with the send of a gathering transfer, and the half of the landing slot not forwarded, stay. -/
theorem kept_ag {i : ℕ} (hl : 12 ≤ i) (hi : i < 20) (X : FVec F S512x256 .f32) :
    iprop(sendPay m ρ c i ∗ held c (ldM i) fullShare.right X) ⊢ (kept c i : sProp 𝕄) := by
  unfold kept
  rw [if_neg (by omega)]
  by_cases h : i < 16
  · rw [if_pos h, sendPay_lo m ρ c h]
    iintro ⟨Hs, Hr⟩
    isplitl [Hs]; · iapply (held_someq c (sbM i) fullShare _); iexact Hs
    iapply (held_someq c (ldM i) _ _); iexact Hr
  · rw [if_neg h, if_pos hi, sendPay_hi m ρ c (by omega) (by omega)]
    iintro ⟨Hs, Hr⟩
    isplitl [Hs]; · iapply (held_someq c (ldM (i - 4)) fullShare.left _); iexact Hs
    iapply (held_someq c (ldM i) _ _); iexact Hr

set_option maxHeartbeats 1000000 in
/-- A step of rounds 3 and 4. -/
theorem ag_step {Q : PUnit.{1} → sProp 𝕄} (i : ℕ) (hl : 12 ≤ i) (hi : i < 20) {oo' : Fin 2 → ℕ} {ho' : InbO oo'} (ho : oo' = oo c i) (hd : d = tgt c (i + 4))
    (h : Rg m ρ c (i + 5) (i + 1) (wr c i f (val m ρ c (i + 4))) ⊢ runs c k Q) : Rg m ρ c (i + 4) i f ⊢ runs c (agP i oo' ho' d k) Q := by
  unfold Rg ctx agP
  iintro ⟨⟨#Hrec, #Hlev⟩, HSt, HO, Hx, Ho⟩
  ihave H := (St_both (F := F) c (n := i + 4) (i := i) (by omega) (by omega)) $$ HSt
  icases H with ⟨Hf, Hu, Hback⟩
  iapply (wp_waitP m ρ c (i := i) (n := i + 4) (by omega) (by omega)) $$ [Hf HO]
  · isplitr; · iapply (recs_send m ρ c (i := i) (by omega)); iexact Hrec
    isplitr; · iapply (recs_recv m ρ c (i := i) (by omega)); iexact Hrec
    isplitr; · iexact Hlev
    isplitl [Hf]; · iexact Hf
    iexact HO
  iintro ⟨Hz, Hs, Hr, HO⟩
  unfold recvPay
  rw [← val_pass m ρ c (by omega)]
  ihave Hr2 := (held_halves c (ldM i) _) $$ Hr
  icases Hr2 with ⟨HrL, HrR⟩
  iapply (wp_sendP m ρ c (i := i + 4) (by omega) hd) $$ [Hu HrL HO]
  · isplitr; · iapply (recs_send m ρ c (i := i + 4) (by omega)); iexact Hrec
    isplitr; · iapply (recs_recv m ρ _ (i := i + 4) (by omega)); iexact Hrec
    isplitl [Hu]; · iexact Hu
    isplitl [HrL]; · rw [sendPay_hi m ρ c (by omega) (by omega), Nat.add_sub_cancel]; iexact HrL
    iexact HO
  iintro ⟨Hf, HO⟩
  iapply (wp_copy c (i := i) fullShare.right _ f ho) $$ [Ho HrR]
  · isplitl [Ho]; · iexact Ho
    iexact HrR
  iintro ⟨Ho, HrR⟩
  iapply h
  unfold Rg ctx
  isplitr
  · isplitr; · iexact Hrec
    iexact Hlev
  isplitl [Hback Hf Hz Hs HrR]
  · iapply Hback
    isplitl [Hz Hs HrR]
    · unfold done
      isplitl [Hz]; · iexact Hz
      iapply (kept_ag m ρ c hl hi _)
      isplitl [Hs]; · iexact Hs
      iexact HrR
    iexact Hf
  isplitl [HO]; · iexact HO
  isplitl [Hx]; · iexact Hx
  iexact Ho

set_option maxHeartbeats 1000000 in
/-- A step of round 5. -/
theorem last_step {Q : PUnit.{1} → sProp 𝕄} (i : ℕ) (hl : 20 ≤ i) (hi : i < 24) {oo' : Fin 2 → ℕ} {ho' : InbO oo'} (ho : oo' = oo c i)
    (h : Rg m ρ c 24 (i + 1) (wr c i f (val m ρ c (i + 4))) ⊢ runs c k Q) : Rg m ρ c 24 i f ⊢ runs c (lastP i oo' ho' k) Q := by
  unfold Rg ctx lastP
  iintro ⟨⟨#Hrec, #Hlev⟩, HSt, HO, Hx, Ho⟩
  ihave H := (St_wait (F := F) c (n := 24) (i := i) hi hi) $$ HSt
  icases H with ⟨Hf, Hback⟩
  iapply (wp_waitP m ρ c (i := i) (n := 24) hi (by omega)) $$ [Hf HO]
  · isplitr; · iapply (recs_send m ρ c (i := i) hi); iexact Hrec
    isplitr; · iapply (recs_recv m ρ c (i := i) hi); iexact Hrec
    isplitr; · iexact Hlev
    isplitl [Hf]; · iexact Hf
    iexact HO
  iintro ⟨Hz, Hs, Hr, HO⟩
  unfold recvPay
  rw [← val_pass m ρ c (by omega)]
  iapply (wp_copy c (i := i) fullShare _ f ho) $$ [Ho Hr]
  · isplitl [Ho]; · iexact Ho
    iexact Hr
  iintro ⟨Ho, Hr⟩
  iapply h
  unfold Rg ctx
  isplitr
  · isplitr; · iexact Hrec
    iexact Hlev
  isplitl [Hback Hz Hs Hr]
  · iapply Hback
    unfold done
    isplitl [Hz]; · iexact Hz
    unfold kept
    rw [if_neg (by omega), if_neg (by omega), if_neg (by omega)]
    ihave Hs := (Entails.of_eq (sendPay_hi m ρ c (i := i) (by omega) hi)) $$ Hs
    isplitl [Hs]; · iapply (held_someq c (ldM (i - 4)) fullShare.left _); iexact Hs
    iapply (held_someq c (ldM i) fullShare _); iexact Hr
  isplitl [HO]; · iexact HO
  isplitl [Hx]; · iexact Hx
  iexact Ho

end Steps

end Cert.KernelIdealRing

end
-- ==== Proof.KernelIdealBody.lean ====
/-
# The body, from the handshake to the end

The handshake, the first four transfers, and the chain of all the steps.
-/
module

public import proofs.«01_k».proof.Proof.KernelIdealSteps

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The steps after the first four transfers -/

/-- The result's buffer once its first `n` blocks are written. -/
def outW (f : (cc0_stg1_0 : Ref sig .tc).ty.Contents (Elt F)) : ℕ → (cc0_stg1_0 : Ref sig .tc).ty.Contents (Elt F)
  | 0 => f
  | n + 1 => wr c (8 + n) (outW f n) (val m ρ c (8 + n + 4))

set_option maxHeartbeats 4000000 in
/-- All the steps: every transfer starts and is done, every block of the result is written. -/
theorem tail_sound (f : (cc0_stg1_0 : Ref sig .tc).ty.Contents (Elt F)) :
    Rg m ρ c 4 0 f ⊢ runs c (tailP c) (fun _ => Rg m ρ c 24 24 (outW m ρ c f 16)) := by
  unfold tailP
  iterate 8 refine rs_step m ρ c _ (by decide) (by revert c; decide +kernel) (by revert c; decide +kernel) ?_
  iterate 4 refine turn_step m ρ c _ (by decide) (by decide) (by revert c; decide +kernel) (by revert c; decide +kernel) (by revert c; decide +kernel) ?_
  iterate 8 refine ag_step m ρ c _ (by decide) (by decide) (by revert c; decide +kernel) (by revert c; decide +kernel) ?_
  iterate 4 refine last_step m ρ c _ (by decide) (by decide) (by revert c; decide +kernel) ?_
  unfold runs
  rw [wp_ret]
  iintro H
  imodintro
  iexact H

/-! ## The handshake -/

/-- What device `c` shakes hands with: its position, the credit of its wait, the two duties it pays. -/
def shakeTok : sProp 𝕄 :=
  iprop(atPos ER (barCell c) 0 ∅ 0 ∗ cred (tallyAt (barCell c) () 2) ∗ dutyTok ER (barCell (prv c)) 0 true ∗ dutyTok ER (barCell (nxt c)) 0 false)

theorem barPay_prv : (barPay (prv c) true : sProp 𝕄) = bigSep evens (slot c) := by
  unfold barPay; rw [if_pos rfl, nxt_prv]
theorem barPay_nxt : (barPay (nxt c) false : sProp 𝕄) = bigSep odds (slot c) := by
  unfold barPay; rw [if_neg Bool.false_ne_true, prv_nxt]

set_option maxHeartbeats 800000 in
/-- The handshake trades device `c`'s own landing slots for those it sends to. -/
theorem wp_shake {k : StepP F} {Q : PUnit.{1} → sProp 𝕄} {p n : Dev nD} (hp : p = prv c) (hn : n = nxt c) (W : Waits sig Unit) :
    iprop(ctx m ρ ∗ shakeTok c ∗ bigSep evens (slot c) ∗ bigSep odds (slot c) ∗ owes (c : Thread nD τ) (O₀ c) W)
      ⊢ iprop(((bigSep evens (slot (nxt c)) ∗ bigSep odds (slot (prv c)) ∗ semVal (barCell c) 0 ∗ owesE c 0) -∗ runs c k Q) -∗ runs c (shakeP p n k) Q) := by
  subst hp hn
  unfold ctx shakeTok owesE shakeP
  iintro ⟨⟨#Hrec, #Hlev⟩, ⟨HaB, HcB, HtP, HtN⟩, Hev, Hod, HO⟩ Hk
  ihave HkP := (recs_bar m ρ (prv c)) $$ Hrec
  ihave HkN := (recs_bar m ρ (nxt c)) $$ Hrec
  ihave HkC := (recs_bar m ρ c) $$ Hrec
  unfold known
  icases HkP with ⟨%κ₁, #HI₁, #Hr₁⟩
  icases HkN with ⟨%κ₂, #HI₂, #Hr₂⟩
  icases HkC with ⟨%κ₃, #HI₃, -⟩
  iapply (Rounds.wp_signal 𝒱₀ ER (ringRd m ρ) (c : Thread nD τ) none (dst := (prv c : Thread nD τ)) (κ := κ₁)
      (d := true) (by rw [duties_bar]; exact Finset.mem_univ _) ((amount_bar m ρ (prv c) true).trans (by decide)) () (O₁ c) rfl)
    $$ [HO HtP Hev]
  · isplitr; · iexact HI₁
    isplitl [HO]; · iexact HO
    isplitl [HtP]; · iexact HtP
    isplitl [Hev]
    · rw [payload_bar, barPay_prv]; iexact Hev
    · iexact Hr₁
  iintro HO
  unfold O₁
  iapply (Rounds.wp_signal 𝒱₀ ER (ringRd m ρ) (c : Thread nD τ) none (dst := (nxt c : Thread nD τ)) (κ := κ₂)
      (d := false) (by rw [duties_bar]; exact Finset.mem_univ _) ((amount_bar m ρ (nxt c) false).trans (by decide)) () (Orem c 0) rfl)
    $$ [HO HtN Hod]
  · isplitr; · iexact HI₂
    isplitl [HO]; · iexact HO
    isplitl [HtN]; · iexact HtN
    isplitl [Hod]
    · rw [payload_bar, barPay_nxt]; iexact Hod
    · iexact Hr₂
  iintro HO
  iapply (Rounds.wp_wait_rest_token 𝒱₀ ER (ringRd m ρ) (c : Thread nD τ) none (κ := κ₃)
      (wpE_semWait_eq 𝒱₀ (c : Thread nD τ) none Set.univ) (Set.mem_univ _) () (O := Orem c 0) (W := W) (R := 0) (m := 0) (T := ∅)
      (by rw [expect_bar]; decide)) $$ [HcB HO HaB]
  · isplitr; · iexact HI₃
    isplitl [HcB]; · iexact HcB
    isplitl [HO]; · iexact HO
    isplitr; · iapply (mayWait_ring c (.reg barS) 0 (by decide)); iexact Hlev
    iexact HaB
  iintro ⟨HO, HaB, -, Hpay⟩
  ihave Hp := (Entails.of_eq (rest_bar m ρ c)) $$ Hpay
  icases Hp with ⟨Hev, Hod⟩
  imod (Rounds.cell_close ER (ringRd m ρ) (Set.mem_univ κ₃) (fun h => h) (R := 0 + 1) (duties_later m ρ (barCell c))) $$ [HaB] with HzB
  · isplitr; · iexact HI₃
    iexact HaB
  iapply Hk
  isplitl [Hev]; · iexact Hev
  isplitl [Hod]; · iexact Hod
  isplitl [HzB]; · iexact HzB
  iexists _; iexact HO

/-! ## The first four transfers -/

/-- Transfer `i` before the handshake: all it needs but the slot it lands in. -/
def pre (i : ℕ) : sProp 𝕄 :=
  iprop(atPos ER (sendCell c i) 0 ∅ 0 ∗ atPos ER (recvCell c i) 0 ∅ 0 ∗ cred (tallyAt (recvCell c i) () N)
    ∗ dutyTok ER (sendCell c i) 0 false ∗ dutyTok ER (recvCell (tgt c i) i) 0 false)

/-- The slots of all landing buffers, those of either direction. -/
theorem slots_split (Φ : ℕ → sProp 𝕄) : bigSep (Finset.range 24) Φ = iprop(bigSep evens Φ ∗ bigSep odds Φ) :=
  bigSep_filter_split (Finset.range 24) (· % 2 = 0)

theorem St_start : iprop(bigSep (Finset.range 24) (pre c) ∗ bigSep evens (slot (nxt c)) ∗ bigSep odds (slot (prv c))) ⊢ (St c 0 0 : sProp 𝕄) := by
  have h1 : bigSep evens (slot (nxt c)) = (bigSep evens fun i => slot (tgt c i) i : sProp 𝕄) :=
    bigSep_congr fun i hi => by unfold tgt; rw [if_pos (Finset.mem_filter.mp hi).2]
  have h2 : bigSep odds (slot (prv c)) = (bigSep odds fun i => slot (tgt c i) i : sProp 𝕄) :=
    bigSep_congr fun i hi => by unfold tgt; rw [if_neg (Finset.mem_filter.mp hi).2]
  have h3 : iprop(bigSep (Finset.range 24) (pre c) ∗ bigSep (Finset.range 24) fun i => slot (tgt c i) i) ⊢ (St c 0 0 : sProp 𝕄) := by
    unfold St
    rw [← bigSep_sep']
    refine bigSep_mono fun i _ => ?_
    rw [tr_unsent c (Nat.zero_le i)]
    show iprop(pre c i ∗ slot (tgt c i) i) ⊢ unsent c i
    unfold unsent pre
    iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6
  rw [h1, h2, ← slots_split fun i => slot (tgt c i) i]
  exact h3

section First
variable {k : StepP F} {f : (cc0_stg1_0 : Ref sig .tc).ty.Contents (Elt F)}

/-- One of the first four sends, its slot filled. -/
theorem first_send {Q : PUnit.{1} → sProp 𝕄} {d : Dev nD} (i : ℕ) (hi : i < 4) (hd : d = tgt c i) :
    iprop(Rg m ρ c i 0 f ∗ sendPay m ρ c i) ⊢ iprop((Rg m ρ c (i + 1) 0 f -∗ runs c k Q) -∗ runs c (sendP i d k) Q) := by
  unfold Rg ctx
  iintro ⟨⟨⟨#Hrec, #Hlev⟩, HSt, HO, Hx, Ho⟩, Hs⟩ Hk
  ihave H := (St_send (F := F) c (n := i) (i := 0) (by omega) (by omega)) $$ HSt
  icases H with ⟨Hu, Hback⟩
  iapply (wp_sendP m ρ c (i := i) (by omega) hd) $$ [Hu Hs HO]
  · isplitr; · iapply (recs_send m ρ c (i := i) (by omega)); iexact Hrec
    isplitr; · iapply (recs_recv m ρ _ (i := i) (by omega)); iexact Hrec
    isplitl [Hu]; · iexact Hu
    isplitl [Hs]; · iexact Hs
    iexact HO
  iintro ⟨Hf, HO⟩
  iapply Hk
  isplitr
  · isplitr; · iexact Hrec
    iexact Hlev
  isplitl [Hback Hf]; · iapply Hback; iexact Hf
  isplitl [HO]; · iexact HO
  isplitl [Hx]; · iexact Hx
  iexact Ho

/-- One of the first four fills. -/
theorem first_fill {Q : PUnit.{1} → sProp 𝕄} {xo' : Fin 3 → ℕ} {hx : InbX xo'} (n i : ℕ) (hi : i < 4) (ho : xo' = xo c i) :
    iprop(Rg m ρ c n 0 f ∗ some_ c (sbM i)) ⊢ iprop(((Rg m ρ c n 0 f ∗ sendPay m ρ c i) -∗ runs c k Q) -∗ runs c (fillP i xo' hx k) Q) := by
  unfold Rg
  iintro ⟨⟨Hctx, HSt, HO, Hx, Ho⟩, Hs⟩ Hk
  iapply (wp_fill m ρ c (i := i) i ho) $$ [Hx Hs]
  · isplitl [Hx]; · iexact Hx
    iexact Hs
  iintro ⟨Hx, Hs⟩
  iapply Hk
  isplitr [Hs]
  · isplitl [Hctx]; · iexact Hctx
    isplitl [HSt]; · iexact HSt
    isplitl [HO]; · iexact HO
    isplitl [Hx]; · iexact Hx
    iexact Ho
  rw [sendPay_lo m ρ c (by omega), val_first m ρ c hi]; iexact Hs

end First

/-- What device `c` starts with: every cell known, the handshake's tokens, what each transfer needs. -/
def start : sProp 𝕄 := iprop(ctx m ρ ∗ shakeTok c ∗ bigSep (Finset.range 24) (pre c))
/-- Its slots. -/
def room : sProp 𝕄 :=
  iprop(bigSep (Finset.range 24) (slot c) ∗ some_ c (sbM 0) ∗ some_ c (sbM 1) ∗ some_ c (sbM 2) ∗ some_ c (sbM 3))

set_option maxHeartbeats 4000000 in
/-- The body: from what a device starts with to everything done. -/
theorem ring_sound {Q : PUnit.{1} → sProp 𝕄} (f : (cc0_stg1_0 : Ref sig .tc).ty.Contents (Elt F)) (W : Waits sig Unit) :
    iprop(start m ρ c ∗ room c ∗ owes (c : Thread nD τ) (O₀ c) W ∗ xPts m ρ c ∗ oPts c f)
      ⊢ iprop(((Rg m ρ c 24 24 (outW m ρ c f 16) ∗ semVal (barCell c) 0) -∗ Q ⟨⟩) -∗ runs c (ringP c) Q) := by
  unfold start room ringP
  rw [slots_split (slot c)]
  iintro ⟨⟨#Hctx, Htok, Hpre⟩, ⟨⟨Hev, Hod⟩, Hs0, Hs1, Hs2, Hs3⟩, HO, Hx, Ho⟩ Hk
  iapply (wp_shake m ρ c (by revert c; decide +kernel) (by revert c; decide +kernel) W) $$ [Htok Hev Hod HO]
  · isplitr; · iexact Hctx
    isplitl [Htok]; · iexact Htok
    isplitl [Hev]; · iexact Hev
    isplitl [Hod]; · iexact Hod
    iexact HO
  iintro ⟨Hev, Hod, HzB, HO⟩
  ihave HSt := (St_start (F := F) c) $$ [Hpre Hev Hod]
  · isplitl [Hpre]; · iexact Hpre
    isplitl [Hev]; · iexact Hev
    iexact Hod
  ihave HR := (show iprop(ctx m ρ ∗ St c 0 0 ∗ owesE c 0 ∗ xPts m ρ c ∗ oPts c f) ⊢ Rg m ρ c 0 0 f from Entails.of_eq rfl) $$ [HSt HO Hx Ho]
  · isplitr; · iexact Hctx
    isplitl [HSt]; · iexact HSt
    isplitl [HO]; · iexact HO
    isplitl [Hx]; · iexact Hx
    iexact Ho
  iapply (first_fill m ρ c 0 0 (by decide) (by revert c; decide +kernel)) $$ [HR Hs0]
  · isplitl [HR]; · iexact HR
    iexact Hs0
  iintro ⟨HR, Hs0⟩
  iapply (first_fill m ρ c 0 1 (by decide) (by revert c; decide +kernel)) $$ [HR Hs1]
  · isplitl [HR]; · iexact HR
    iexact Hs1
  iintro ⟨HR, Hs1⟩
  iapply (first_send m ρ c 0 (by decide) (by revert c; decide +kernel)) $$ [HR Hs0]
  · isplitl [HR]; · iexact HR
    iexact Hs0
  iintro HR
  iapply (first_send m ρ c 1 (by decide) (by revert c; decide +kernel)) $$ [HR Hs1]
  · isplitl [HR]; · iexact HR
    iexact Hs1
  iintro HR
  iapply (first_fill m ρ c 2 2 (by decide) (by revert c; decide +kernel)) $$ [HR Hs2]
  · isplitl [HR]; · iexact HR
    iexact Hs2
  iintro ⟨HR, Hs2⟩
  iapply (first_fill m ρ c 2 3 (by decide) (by revert c; decide +kernel)) $$ [HR Hs3]
  · isplitl [HR]; · iexact HR
    iexact Hs3
  iintro ⟨HR, Hs3⟩
  iapply (first_send m ρ c 2 (by decide) (by revert c; decide +kernel)) $$ [HR Hs2]
  · isplitl [HR]; · iexact HR
    iexact Hs2
  iintro HR
  iapply (first_send m ρ c 3 (by decide) (by revert c; decide +kernel)) $$ [HR Hs3]
  · isplitl [HR]; · iexact HR
    iexact Hs3
  iintro HR
  ihave HW := (tail_sound m ρ c f) $$ HR
  iapply wp_wand_r $$ [HW Hk HzB]
  isplitl [HW]; · iexact HW
  iintro %a HR
  iapply Hk
  isplitl [HR]; · iexact HR
  iexact HzB

end Cert.KernelIdealRing

end
-- ==== Proof.KernelIdealRoom.lean ====
/-
# The buffers cut into slots, and the slots joined to the buffers

At entry each scratch buffer is held whole and is cut into the slots of the transfers; at exit the slots, some of them
in two halves, join to the buffers.
-/
module

public import proofs.«01_k».proof.Proof.KernelIdealBody

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

theorem bigSep_imp {I : Type} {s : Finset I} {Φ Ψ : I → sProp 𝕄} (h : ∀ i ∈ s, Φ i ⊢ Ψ i) : bigSep s Φ ⊢ bigSep s Ψ := bigSep_mono h

/-! ## Cutting a buffer -/

/-- A buffer held whole at some contents. -/
def whole_ {s : Shape} (B : Memref sig .tc .vmem s .f32) : sProp 𝕄 :=
  iprop(∃ f : Buf (Elt F) (B.view.loc (c : Thread nD τ)), B.view.loc (c : Thread nD τ) ↦{fullShare} f)
/-- A part of it held at some contents. -/
def part_ {s : Shape} (B : Memref sig .tc .vmem s .f32) (I : Finset s.Idx) : sProp 𝕄 :=
  iprop(∃ f : Buf (Elt F) (B.view.loc (c : Thread nD τ)), B.view.loc (c : Thread nD τ) ↦[B.view.setOn I]{fullShare} f)

section Cut
variable {s : Shape} (B : Memref sig .tc .vmem s .f32) (hB : B.view.set = Finset.univ) {n : ℕ} (R : Fin n → Finset s.Idx)
  (hd : ∀ k k', k ≠ k' → Disjoint (R k) (R k')) (hc : ∀ p, ∃ k, p ∈ R k)

include hd in
theorem cut_disj : ∀ k k', k ≠ k' → Disjoint (B.view.setOn (R k)) (B.view.setOn (R k')) :=
  fun k k' h => (Finset.disjoint_map _).mpr (hd k k' h)
include hB hc in
theorem cut_cover : Finset.univ.biUnion (fun k => B.view.setOn (R k)) = Finset.univ := by
  refine Finset.eq_univ_of_forall fun p => ?_
  have hp : p ∈ B.view.set := hB ▸ Finset.mem_univ p
  obtain ⟨x, -, rfl⟩ := Finset.mem_map.mp hp
  obtain ⟨k, hk⟩ := hc x
  exact Finset.mem_biUnion.mpr ⟨k, Finset.mem_univ _, (View.mem_setOn _).mpr hk⟩

include hB hd hc in
/-- A buffer held whole is held part by part; -/
theorem whole_cut : (whole_ c B : sProp 𝕄) ⊢ bigSep Finset.univ fun k => part_ c B (R k) := by
  unfold whole_ part_
  iintro ⟨%f, H⟩
  have h := Ring.pointsTo_blocks (Ix := Unit) (Name := ℕ) (U := UU) (Lvl := ℕ) (Val := Elt F) (ℓ := B.view.loc (c : Thread nD τ))
    (fun k => B.view.setOn (R k)) (cut_disj B R hd) (cut_cover B hB R hc) (q := fullShare) f
  ihave H := (Entails.of_eq h) $$ H
  iapply (bigSep_imp (s := Finset.univ) fun k _ => show (B.view.loc (c : Thread nD τ) ↦[B.view.setOn (R k)]{fullShare} f : sProp 𝕄) ⊢ _ from by
    iintro H; iexists f; iexact H)
  iexact H

include hB hd hc in
/-- and its parts join to it. -/
theorem whole_join : (bigSep Finset.univ fun k => part_ c B (R k) : sProp 𝕄) ⊢ whole_ c B := by
  unfold part_ whole_
  exact Ring.pointsTo_blocks_join_exists (Ix := Unit) (Name := ℕ) (U := UU) (Lvl := ℕ) (Val := Elt F) (ℓ := B.view.loc (c : Thread nD τ))
    (fun k => B.view.setOn (R k)) (cut_disj B R hd) (cut_cover B hB R hc) (q := fullShare) (View.junk (Val := Elt F) B.view)
end Cut

/-! ## The slots of the landing and the send buffers -/

/-- The landing buffers, by phase and direction. -/
def ldX : Fin 4 → Memref sig .tc .vmem S2x3x512x256 .f32 :=
  ![Memref.whole cc0_scratch2, Memref.whole cc0_scratch3, Memref.whole cc0_scratch4, Memref.whole cc0_scratch5]
/-- The send buffers, by direction. -/
def sbX : Fin 2 → Memref sig .tc .vmem S2x512x256 .f32 := ![Memref.whole cc0_scratch0, Memref.whole cc0_scratch1]

theorem ldX_set (x : Fin 4) : (ldX x).view.set = Finset.univ := by fin_cases x <;> exact View.set_whole _
theorem sbX_set (y : Fin 2) : (sbX y).view.set = Finset.univ := by fin_cases y <;> exact View.set_whole _

/-- The transfer that lands in slot `k` of landing buffer `x`. -/
def ldIx (p : Fin 4 × Fin 6) : ℕ := 12 * (p.1.val / 2) + p.1.val % 2 + 2 * p.2.val

theorem ldM_cut : ∀ (x : Fin 4) (k : Fin 6), ldM (ldIx (x, k)) = ((ldX x).slice (ldR (2 * k.val)) (fun _ => rfl)).squeeze S512x256 squeezes_S1x1x512x256_S512x256 := by
  intro x k; fin_cases x <;> fin_cases k <;> rfl
theorem sbM_cut : ∀ (y : Fin 2) (k : Fin 2), sbM (y.val + 2 * k.val) = ((sbX y).slice (sbR (2 * k.val)) (fun _ => rfl)).squeeze S512x256 squeezes_S1x512x256_S512x256 := by
  intro y k; fin_cases y <;> fin_cases k <;> rfl

theorem slot_part (x : Fin 4) (k : Fin 6) : (slot c (ldIx (x, k)) : sProp 𝕄) = part_ c (ldX x) (ldR (2 * k.val)).set := by
  unfold slot
  rw [ldM_cut]
  exact congrArg (fun I : Finset (Idx ((ldX x).view.loc (c : Thread nD τ))) => (iprop(∃ f : Buf (Elt F) ((ldX x).view.loc (c : Thread nD τ)),
      (ldX x).view.loc (c : Thread nD τ) ↦[I]{fullShare} f) : sProp 𝕄)) ((Memref.set_view_squeeze _ _).trans (View.set_slice _ _))
theorem sb_part (y : Fin 2) (k : Fin 2) : (some_ c (sbM (y.val + 2 * k.val)) : sProp 𝕄) = part_ c (sbX y) (sbR (2 * k.val)).set := by
  rw [sbM_cut]
  exact congrArg (fun I : Finset (Idx ((sbX y).view.loc (c : Thread nD τ))) => (iprop(∃ f : Buf (Elt F) ((sbX y).view.loc (c : Thread nD τ)),
      (sbX y).view.loc (c : Thread nD τ) ↦[I]{fullShare} f) : sProp 𝕄)) ((Memref.set_view_squeeze _ _).trans (View.set_slice _ _))

theorem mem_ldR (k : Fin 6) (p : S2x3x512x256.Idx) : p ∈ (ldR (2 * k.val)).set ↔ (p 0).val = k.val % 2 ∧ (p 1).val = k.val / 2 := by
  have hk := k.isLt
  have e0 : stx (2 * k.val) = k.val % 2 := by unfold stx; omega
  have e1 : hpx (2 * k.val) = k.val / 2 := by unfold hpx; omega
  rw [Rect.mem_set_unit]
  constructor
  · intro h
    have h0 : stx (2 * k.val) ≤ (p 0).val ∧ (p 0).val < stx (2 * k.val) + 1 := h 0
    have h1 : hpx (2 * k.val) ≤ (p 1).val ∧ (p 1).val < hpx (2 * k.val) + 1 := h 1
    omega
  · rintro ⟨h0, h1⟩ a
    fin_cases a
    · show stx (2 * k.val) ≤ (p 0).val ∧ (p 0).val < stx (2 * k.val) + 1; omega
    · show hpx (2 * k.val) ≤ (p 1).val ∧ (p 1).val < hpx (2 * k.val) + 1; omega
    · exact ⟨Nat.zero_le _, (Nat.zero_add 512).symm ▸ (p 2).isLt⟩
    · exact ⟨Nat.zero_le _, (Nat.zero_add 256).symm ▸ (p 3).isLt⟩
theorem mem_sbR (k : Fin 2) (p : S2x512x256.Idx) : p ∈ (sbR (2 * k.val)).set ↔ (p 0).val = k.val := by
  have hk := k.isLt
  have e0 : stx (2 * k.val) = k.val := by unfold stx; omega
  rw [Rect.mem_set_unit]
  constructor
  · intro h
    have h0 : stx (2 * k.val) ≤ (p 0).val ∧ (p 0).val < stx (2 * k.val) + 1 := h 0
    omega
  · rintro h0 a
    fin_cases a
    · show stx (2 * k.val) ≤ (p 0).val ∧ (p 0).val < stx (2 * k.val) + 1; omega
    · exact ⟨Nat.zero_le _, (Nat.zero_add 512).symm ▸ (p 1).isLt⟩
    · exact ⟨Nat.zero_le _, (Nat.zero_add 256).symm ▸ (p 2).isLt⟩

theorem ld_disj (k k' : Fin 6) (h : k ≠ k') : Disjoint (ldR (2 * k.val)).set (ldR (2 * k'.val)).set :=
  Finset.disjoint_left.mpr fun p hp hp' => h (Fin.ext (by have := (mem_ldR k p).mp hp; have := (mem_ldR k' p).mp hp'; omega))
theorem ld_cover (p : S2x3x512x256.Idx) : ∃ k : Fin 6, p ∈ (ldR (2 * k.val)).set := by
  have h0 : (p 0).val < 2 := (p 0).isLt
  have h1 : (p 1).val < 3 := (p 1).isLt
  exact ⟨⟨2 * (p 1).val + (p 0).val, by omega⟩, (mem_ldR _ p).mpr ⟨by show _ = (2 * (p 1).val + (p 0).val) % 2; omega, by show _ = (2 * (p 1).val + (p 0).val) / 2; omega⟩⟩
theorem sb_disj (k k' : Fin 2) (h : k ≠ k') : Disjoint (sbR (2 * k.val)).set (sbR (2 * k'.val)).set :=
  Finset.disjoint_left.mpr fun p hp hp' => h (Fin.ext (((mem_sbR k p).mp hp).symm.trans ((mem_sbR k' p).mp hp')))
theorem sb_cover (p : S2x512x256.Idx) : ∃ k : Fin 2, p ∈ (sbR (2 * k.val)).set := ⟨⟨(p 0).val, (p 0).isLt⟩, (mem_sbR _ p).mpr rfl⟩

theorem ld_cut (x : Fin 4) : (whole_ c (ldX x) : sProp 𝕄) ⊢ bigSep Finset.univ fun k : Fin 6 => slot c (ldIx (x, k)) :=
  (whole_cut c (ldX x) (ldX_set x) (fun k : Fin 6 => (ldR (2 * k.val)).set) ld_disj ld_cover).trans
    (Entails.of_eq (bigSep_congr fun k _ => (slot_part c x k).symm))
theorem ld_join (x : Fin 4) : (bigSep Finset.univ fun k : Fin 6 => slot c (ldIx (x, k)) : sProp 𝕄) ⊢ whole_ c (ldX x) :=
  (Entails.of_eq (bigSep_congr fun k _ => slot_part c x k)).trans
    (whole_join c (ldX x) (ldX_set x) (fun k : Fin 6 => (ldR (2 * k.val)).set) ld_disj ld_cover)
theorem sb_cut (y : Fin 2) : (whole_ c (sbX y) : sProp 𝕄) ⊢ bigSep Finset.univ fun k : Fin 2 => some_ c (sbM (y.val + 2 * k.val)) :=
  (whole_cut c (sbX y) (sbX_set y) (fun k : Fin 2 => (sbR (2 * k.val)).set) sb_disj sb_cover).trans
    (Entails.of_eq (bigSep_congr fun k _ => (sb_part c y k).symm))
theorem sb_join (y : Fin 2) : (bigSep Finset.univ fun k : Fin 2 => some_ c (sbM (y.val + 2 * k.val)) : sProp 𝕄) ⊢ whole_ c (sbX y) :=
  (Entails.of_eq (bigSep_congr fun k _ => sb_part c y k)).trans
    (whole_join c (sbX y) (sbX_set y) (fun k : Fin 2 => (sbR (2 * k.val)).set) sb_disj sb_cover)

/-- The transfers, buffer by buffer; -/
theorem range_ld (Φ : ℕ → sProp 𝕄) : bigSep (Finset.range 24) Φ = bigSep Finset.univ fun x : Fin 4 => bigSep Finset.univ fun k : Fin 6 => Φ (ldIx (x, k)) := by
  rw [← bigSep_univ_prod fun p : Fin 4 × Fin 6 => Φ (ldIx p),
    show Finset.range 24 = Finset.univ.map ⟨ldIx, by decide +kernel⟩ by decide +kernel, bigSep_map]
  rfl
/-- the send slots, buffer by buffer. -/
theorem range_sb (Φ : ℕ → sProp 𝕄) : bigSep (Finset.range 4) Φ = bigSep Finset.univ fun y : Fin 2 => bigSep Finset.univ fun k : Fin 2 => Φ (y.val + 2 * k.val) := by
  rw [← bigSep_univ_prod fun p : Fin 2 × Fin 2 => Φ (p.1.val + 2 * p.2.val),
    show Finset.range 4 = Finset.univ.map ⟨fun p : Fin 2 × Fin 2 => p.1.val + 2 * p.2.val, by decide +kernel⟩ by decide +kernel, bigSep_map]
  rfl

/-- The scratch buffers, each whole at some contents. -/
theorem scratch_eq : (Pipeline.scopedRest (Ix := Unit) (Name := ℕ) (U := UU) (Lvl := ℕ) (Val := Elt F) spec0 c : sProp 𝕄)
    = iprop((bigSep Finset.univ fun y : Fin 2 => whole_ c (sbX y)) ∗ bigSep Finset.univ fun x : Fin 4 => whole_ c (ldX x)) := by
  rw [scopedRest0_eq, bigSep_univ_eq_bigSepL [0, 1] (by decide) (by decide), bigSep_univ_eq_bigSepL [0, 1, 2, 3] (by decide) (by decide)]
  refine BI.Entails.antisymm ?_ ?_
  · show iprop(whole_ c (sbX 0) ∗ whole_ c (sbX 1) ∗ whole_ c (ldX 0) ∗ whole_ c (ldX 1) ∗ whole_ c (ldX 2) ∗ whole_ c (ldX 3))
      ⊢ iprop((whole_ c (sbX 0) ∗ whole_ c (sbX 1)) ∗ (whole_ c (ldX 0) ∗ whole_ c (ldX 1) ∗ whole_ c (ldX 2) ∗ whole_ c (ldX 3)))
    iintro ⟨H0, H1, H2⟩
    isplitl [H0 H1]
    · isplitl [H0]; · iexact H0
      iexact H1
    iexact H2
  · show iprop((whole_ c (sbX 0) ∗ whole_ c (sbX 1)) ∗ (whole_ c (ldX 0) ∗ whole_ c (ldX 1) ∗ whole_ c (ldX 2) ∗ whole_ c (ldX 3)))
      ⊢ iprop(whole_ c (sbX 0) ∗ whole_ c (sbX 1) ∗ whole_ c (ldX 0) ∗ whole_ c (ldX 1) ∗ whole_ c (ldX 2) ∗ whole_ c (ldX 3))
    iintro ⟨⟨H0, H1⟩, H2⟩
    isplitl [H0]; · iexact H0
    isplitl [H1]; · iexact H1
    iexact H2

/-- At entry: the buffers are cut into the slots. -/
theorem room_intro : (Pipeline.scopedRest (Ix := Unit) (Name := ℕ) (U := UU) (Lvl := ℕ) (Val := Elt F) spec0 c : sProp 𝕄) ⊢ room c := by
  have h4 : bigSep (Finset.range 4) (fun i => (some_ c (sbM i) : sProp 𝕄)) = iprop(some_ c (sbM 0) ∗ some_ c (sbM 1) ∗ some_ c (sbM 2) ∗ some_ c (sbM 3)) := by
    rw [bigSep_eq_bigSepL_of_eq [0, 1, 2, 3] (by decide) (by decide)]; rfl
  unfold room
  rw [scratch_eq, ← h4, range_ld, range_sb]
  iintro ⟨Hs, Hl⟩
  isplitl [Hl]
  · iapply (bigSep_imp (s := Finset.univ) fun x _ => ld_cut (F := F) c x); iexact Hl
  iapply (bigSep_imp (s := Finset.univ) fun y _ => sb_cut (F := F) c y); iexact Hs

/-! ## The exit -/

/-- Two halves of a slot join to the slot. -/
theorem someq_join (M : Memref sig .tc .vmem S512x256 .f32) : iprop(someq c M fullShare.left ∗ someq c M fullShare.right) ⊢ (some_ c M : sProp 𝕄) := by
  unfold someq some_
  iintro ⟨⟨%f, Hf⟩, ⟨%g, Hg⟩⟩
  ihave %hfg := (pointsTo_agree (Ix := Unit) (Name := ℕ) (U := UU) (Lvl := ℕ) (Val := Elt F) (ℓ := M.view.loc (c : Thread nD τ)) (I := M.view.set) (J := M.view.set)
    (q₁ := fullShare.left) (q₂ := fullShare.right) (f := f) (g := g)) $$ [Hf Hg]
  · isplitl [Hf]; · iexact Hf
    iexact Hg
  iexists f
  iapply (pointsTo_share (Ix := Unit) (Name := ℕ) (U := UU) (Lvl := ℕ) (Val := Elt F) (PosShare.mem_left_op_right fullShare)).2
  isplitl [Hf]; · iexact Hf
  iapply (Entails.of_eq (pointsTo_congr (Ix := Unit) (Name := ℕ) (U := UU) (Lvl := ℕ) (Val := Elt F) fun i hi => (hfg i (Finset.mem_inter.mpr ⟨hi, hi⟩)).1.symm))
  iexact Hg

theorem someq_full (M : Memref sig .tc .vmem S512x256 .f32) : (someq c M fullShare : sProp 𝕄) ⊢ some_ c M := Entails.of_eq rfl

theorem range_split (Φ : ℕ → sProp 𝕄) : bigSep (Finset.range 24) Φ
    = iprop(bigSep (Finset.range 12) Φ ∗ bigSep (Finset.range 4) fun j => iprop(Φ (12 + j) ∗ Φ (16 + j) ∗ Φ (20 + j))) := by
  have hm (n : ℕ) : (bigSep (Finset.range 4) fun j => Φ (n + j)) = bigSep ((Finset.range 4).map (addLeftEmbedding n)) Φ := (bigSep_map (addLeftEmbedding n)).symm
  have hu {s t : Finset ℕ} (h : Disjoint s t) : bigSep (s ∪ t) Φ = iprop(bigSep s Φ ∗ bigSep t Φ) := bigSep_union h
  rw [bigSep_sep', bigSep_sep', hm, hm, hm, ← hu (by decide), ← hu (by decide), ← hu (by decide)]
  exact congrArg (fun s => bigSep s Φ) (by decide)

/-- What stays with the device once everything is done is every slot. -/
theorem kept_all : (bigSep (Finset.range 24) (kept c) : sProp 𝕄) ⊢ iprop(bigSep (Finset.range 24) (slot c) ∗ bigSep (Finset.range 4) fun i => some_ c (sbM i)) := by
  rw [range_split, range_split (slot c)]
  have h1 : (bigSep (Finset.range 12) (kept c) : sProp 𝕄) ⊢ bigSep (Finset.range 12) (slot c) :=
    bigSep_imp fun j hj => by unfold kept; rw [if_pos (Finset.mem_range.mp hj)]; exact Entails.of_eq rfl
  have h2 : (bigSep (Finset.range 4) fun j => iprop(kept c (12 + j) ∗ kept c (16 + j) ∗ kept c (20 + j)) : sProp 𝕄)
      ⊢ bigSep (Finset.range 4) fun j => iprop((slot c (12 + j) ∗ slot c (16 + j) ∗ slot c (20 + j)) ∗ some_ c (sbM j)) :=
    bigSep_imp fun j hj => by
      have hj := Finset.mem_range.mp hj
      have e1 : (kept c (12 + j) : sProp 𝕄) = iprop(someq c (sbM j) fullShare ∗ someq c (ldM (12 + j)) fullShare.right) := by
        rw [← sb_next (i := j) (by omega), ← sb_next (i := j + 4) (by omega), ← sb_next (i := j + 4 + 4) (by omega), show j + 4 + 4 + 4 = 12 + j by omega]
        exact (if_neg (by omega)).trans (if_pos (by omega))
      have e2 : (kept c (16 + j) : sProp 𝕄) = iprop(someq c (ldM (12 + j)) fullShare.left ∗ someq c (ldM (16 + j)) fullShare.right) := by
        rw [show 12 + j = 16 + j - 4 by omega]
        exact (if_neg (by omega)).trans ((if_neg (by omega)).trans (if_pos (by omega)))
      have e3 : (kept c (20 + j) : sProp 𝕄) = iprop(someq c (ldM (16 + j)) fullShare.left ∗ someq c (ldM (20 + j)) fullShare) := by
        rw [show 16 + j = 20 + j - 4 by omega]
        exact (if_neg (by omega)).trans ((if_neg (by omega)).trans (if_neg (by omega)))
      rw [e1, e2, e3]
      show iprop((someq c (sbM j) fullShare ∗ someq c (ldM (12 + j)) fullShare.right) ∗ (someq c (ldM (12 + j)) fullShare.left ∗ someq c (ldM (16 + j)) fullShare.right)
          ∗ (someq c (ldM (16 + j)) fullShare.left ∗ someq c (ldM (20 + j)) fullShare))
        ⊢ iprop((slot c (12 + j) ∗ slot c (16 + j) ∗ slot c (20 + j)) ∗ some_ c (sbM j))
      unfold slot
      iintro ⟨⟨Hs, H1r⟩, ⟨H1l, H2r⟩, ⟨H2l, H3⟩⟩
      isplitr [Hs]
      · isplitl [H1r H1l]
        · iapply (someq_join c (ldM (12 + j))); isplitl [H1l]; · iexact H1l
          iexact H1r
        isplitl [H2r H2l]
        · iapply (someq_join c (ldM (16 + j))); isplitl [H2l]; · iexact H2l
          iexact H2r
        iapply (someq_full c (ldM (20 + j))); iexact H3
      iapply (someq_full c (sbM j)); iexact Hs
  have h2 := h2.trans (Entails.of_eq (bigSep_sep' _ _ _))
  iintro ⟨H, H'⟩
  ihave H := h1 $$ H
  ihave H' := h2 $$ H'
  icases H' with ⟨H', Hs⟩
  isplitr [Hs]
  · isplitl [H]; · iexact H
    iexact H'
  iexact Hs

/-- At exit: the slots join to the buffers. -/
theorem room_elim : (bigSep (Finset.range 24) (kept c) : sProp 𝕄) ⊢ Pipeline.scopedRest (Ix := Unit) (Name := ℕ) (U := UU) (Lvl := ℕ) (Val := Elt F) spec0 c := by
  refine (kept_all c).trans ?_
  rw [scratch_eq, range_ld, range_sb]
  iintro ⟨Hl, Hs⟩
  isplitl [Hs]
  · iapply (bigSep_imp (s := Finset.univ) fun y _ => sb_join (F := F) c y); iexact Hs
  iapply (bigSep_imp (s := Finset.univ) fun x _ => ld_join (F := F) c x); iexact Hl

end Cert.KernelIdealRing

end
-- ==== Proof.KernelIdealOut.lean ====
/-
# The result

The sixteen blocks a device writes cover the result's buffer, and each block holds the same values on every device: so
the buffer ends at one function of the launched inputs.
-/
module

public import proofs.«01_k».proof.Proof.KernelIdealRoom

@[expose] public section

noncomputable section

namespace Cert.KernelIdealRing

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The device `h` steps up the stream `j` from device `c`. -/
def back (j h : ℕ) (c : Dev nD) : Dev nD := ⟨(c.val + (if j % 2 = 0 then 3 else 1) * h) % 4, Nat.mod_lt _ (by decide)⟩

theorem back_succ (j h : ℕ) (c : Dev nD) : back j h (org c j) = back j (h + 1) c := by
  refine Fin.ext ?_
  show ((org c j).val + (if j % 2 = 0 then 3 else 1) * h) % 4 = (c.val + (if j % 2 = 0 then 3 else 1) * (h + 1)) % 4
  unfold org
  by_cases hj : j % 2 = 0
  · rw [if_pos hj, if_pos hj]
    show ((c.val + 3) % 4 + 3 * h) % 4 = (c.val + 3 * (h + 1)) % 4
    omega
  · rw [if_neg hj, if_neg hj]
    show ((c.val + 1) % 4 + 1 * h) % 4 = (c.val + 1 * (h + 1)) % 4
    omega

/-- From round 3 on, what a stream carries is passed on unchanged. -/
theorem valh_gather (j h : ℕ) : ∀ c, valh m ρ j (3 + h) c = valh m ρ j 3 (back j h c) := by
  induction h with
  | zero => intro c; exact congrArg (valh m ρ j 3) (Fin.ext (by
      show c.val = (c.val + (if j % 2 = 0 then 3 else 1) * 0) % 4
      have := c.isLt
      rw [Nat.mul_zero, Nat.add_zero, Nat.mod_eq_of_lt this]))
  | succ h ih =>
    intro c
    show (if 3 + h + 1 < 4 then _ else valh m ρ j (3 + h) (org c j)) = _
    rw [if_neg (by omega), ih, back_succ]

/-! ## The result's function -/

/-- The stream that brings an element of the result, the device where it is complete, its place in the block. -/
def outStream (p : S2048x1024.Idx) : ℕ := 2 * ((p 1).val % 512 / 256) + (p 1).val / 512
def outDev (p : S2048x1024.Idx) : Dev nD := ⟨((p 0).val / 512 + (if (p 1).val / 512 = 0 then 3 else 1)) % 4, Nat.mod_lt _ (by decide)⟩
def outIdx (p : S2048x1024.Idx) : S512x256.Idx :=
  fun a => ⟨(![(p 0).val % 512, (p 1).val % 256] : Fin 2 → ℕ) a, by
    fin_cases a
    · exact Nat.mod_lt _ (by decide)
    · exact Nat.mod_lt _ (by decide)⟩

/-- The result, the same on every device. -/
def outAt : (cc0_stg1_0 : Ref sig .tc).ty.Contents (Elt F) := fun p => valh m ρ (outStream p) 3 (outDev p) (outIdx p)

/-- The block of the result device `c` writes in step `i`, as a part of the result's buffer. -/
abbrev ooV (c : Dev nD) (i : ℕ) : View sig .tc .vmem S512x256 .f32 :=
  oM.access (Rect.unit (s := S2048x1024) (oo c i) S512x256.size (oo_inb c i))

/-- Its elements. -/
abbrev ooS (c : Dev nD) (i : ℕ) : Finset S2048x1024.Idx := (ooV c i).set

theorem ooV_emb (c : Dev nD) (i : ℕ) (x : S512x256.Idx) (a : Fin 2) : (((ooV c i).emb x a : Fin _) : ℕ) = oo c i a + (x a).val := by
  show oo c i a + 1 * (x a).val = _
  rw [Nat.one_mul]

theorem wr_hit (c : Dev nD) (i : ℕ) (f : (cc0_stg1_0 : Ref sig .tc).ty.Contents (Elt F)) (v : FVec F S512x256 .f32) (x : S512x256.Idx) :
    wr c i f v ((ooV c i).emb x) = v x :=
  View.write_emb_of_mem (v := ooV c i) f v (Finset.mem_univ x)
theorem wr_miss (c : Dev nD) (i : ℕ) (f : (cc0_stg1_0 : Ref sig .tc).ty.Contents (Elt F)) (v : FVec F S512x256 .f32) {p : S2048x1024.Idx} (h : p ∉ ooS c i) :
    wr c i f v p = f p :=
  View.write_of_not_mem (v := ooV c i) f v Finset.univ h

/-- Every block is written with the result's values. -/
theorem out_block (c : Dev nD) {i : ℕ} (h : 8 ≤ i) (h' : i < 24) (x : S512x256.Idx) : outAt m ρ ((ooV c i).emb x) = val m ρ c (i + 4) x := by
  have e0 : (((ooV c i).emb x 0 : Fin _) : ℕ) = 512 * ((c.val + (if i % 2 = 0 then 7 - i / 4 else i / 4 + 1)) % 4) + (x 0).val := ooV_emb c i x 0
  have e1 : (((ooV c i).emb x 1 : Fin _) : ℕ) = 512 * (i % 2) + 256 * stx i + (x 1).val := ooV_emb c i x 1
  have x0 : (x 0).val < 512 := (x 0).isLt
  have x1 : (x 1).val < 256 := (x 1).isLt
  have hst : stx i = i / 2 % 2 := rfl
  have hs : outStream ((ooV c i).emb x) = i % 4 := by
    unfold outStream
    rw [e1]
    rcases Nat.mod_two_eq_zero_or_one i with h0 | h0 <;> rcases Nat.mod_two_eq_zero_or_one (i / 2) with h1 | h1 <;> rw [hst, h0, h1] <;> omega
  have hd : outDev ((ooV c i).emb x) = back (i % 4) ((i - 8) / 4) c := by
    refine Fin.ext ?_
    show ((((ooV c i).emb x 0 : Fin _) : ℕ) / 512 + (if (((ooV c i).emb x 1 : Fin _) : ℕ) / 512 = 0 then 3 else 1)) % 4 = (c.val + (if i % 4 % 2 = 0 then 3 else 1) * ((i - 8) / 4)) % 4
    rw [e0, e1]
    by_cases hi : i % 2 = 0
    · rw [if_pos hi, if_pos (by omega), if_pos (by omega)]; omega
    · rw [if_neg hi, if_neg (by omega), if_neg (by omega)]; omega
  have hx : outIdx ((ooV c i).emb x) = x := by
    funext a
    refine Fin.ext ?_
    fin_cases a
    · show (((ooV c i).emb x 0 : Fin _) : ℕ) % 512 = (x 0).val; rw [e0]; omega
    · show (((ooV c i).emb x 1 : Fin _) : ℕ) % 256 = (x 1).val; rw [e1]; omega
  unfold outAt val
  rw [hs, hd, hx, show (i + 4) % 4 = i % 4 by omega, show (i + 4) / 4 = 3 + (i - 8) / 4 by omega, valh_gather]

/-- Every element of the result is in some block. -/
theorem out_cover (c : Dev nD) (p : S2048x1024.Idx) : ∃ k < 16, p ∈ ooS c (8 + k) := by
  have p0 : (p 0).val < 2048 := (p 0).isLt
  have p1 : (p 1).val < 1024 := (p 1).isLt
  have hc : c.val < 4 := c.isLt
  have key (k : ℕ) (h0 : (p 0).val / 512 = (c.val + (if (8 + k) % 2 = 0 then 7 - (8 + k) / 4 else (8 + k) / 4 + 1)) % 4)
      (h1 : (p 1).val / 256 = 2 * ((8 + k) % 2) + stx (8 + k)) : p ∈ ooS c (8 + k) := by
    have e : ooS c (8 + k) = (Rect.unit (s := S2048x1024) (oo c (8 + k)) S512x256.size (oo_inb c (8 + k))).toLoadRect.set :=
      View.set_slice_whole cc0_stg1_0 _
    rw [e]
    refine Rect.mem_set_unit.mpr fun a => ?_
    fin_cases a
    · show 512 * ((c.val + (if (8 + k) % 2 = 0 then 7 - (8 + k) / 4 else (8 + k) / 4 + 1)) % 4) ≤ (p 0).val
        ∧ (p 0).val < 512 * ((c.val + (if (8 + k) % 2 = 0 then 7 - (8 + k) / 4 else (8 + k) / 4 + 1)) % 4) + 512
      rw [← h0]; omega
    · show 512 * ((8 + k) % 2) + 256 * stx (8 + k) ≤ (p 1).val ∧ (p 1).val < 512 * ((8 + k) % 2) + 256 * stx (8 + k) + 256
      omega
  have hst (i : ℕ) : stx i = i / 2 % 2 := rfl
  by_cases hd : (p 1).val / 512 = 0
  · refine ⟨4 * ((c.val + 5 - (p 0).val / 512) % 4) + 2 * ((p 1).val / 256), by omega, key _ ?_ ?_⟩
    · rw [if_pos (by omega)]; omega
    · rw [hst]; omega
  · refine ⟨4 * (((p 0).val / 512 + 5 - c.val) % 4) + 2 * ((p 1).val / 256 - 2) + 1, by omega, key _ ?_ ?_⟩
    · rw [if_neg (by omega)]; omega
    · rw [hst]; omega

theorem outW_on (c : Dev nD) (f : (cc0_stg1_0 : Ref sig .tc).ty.Contents (Elt F)) :
    ∀ n ≤ 16, ∀ p : S2048x1024.Idx, (∃ k < n, p ∈ ooS c (8 + k)) → outW m ρ c f n p = outAt m ρ p := by
  intro n
  induction n with
  | zero => rintro - p ⟨k, hk, -⟩; omega
  | succ n ih =>
    rintro hn p ⟨k, hk, hp⟩
    show wr c (8 + n) (outW m ρ c f n) (val m ρ c (8 + n + 4)) p = _
    by_cases hm : p ∈ ooS c (8 + n)
    · obtain ⟨x, -, rfl⟩ := Finset.mem_map.mp hm
      exact (wr_hit c (8 + n) _ _ x).trans (out_block m ρ c (by omega) (by omega) x).symm
    · refine (wr_miss c (8 + n) _ _ hm).trans (ih (by omega) p ⟨k, ?_, hp⟩)
      have : k ≠ n := fun h => hm (h ▸ hp)
      omega

/-- Whatever the result's buffer held, it ends at the result. -/
theorem outW_eq (c : Dev nD) (f : (cc0_stg1_0 : Ref sig .tc).ty.Contents (Elt F)) : outW m ρ c f 16 = outAt m ρ :=
  funext fun p => outW_on m ρ c f 16 (Nat.le_refl _) p (out_cover c p)

end Cert.KernelIdealRing

end
-- ==== Proof.KernelIdealRun.lean ====
/-
# The launch and the run

What the launch deals every device, the body as the one point of the pipeline, and the run: the kernel terminates on all
four devices, the input is unchanged, the result is the one of the module before, every counter is back at zero.
-/
module

public import proofs.«01_k».proof.Proof.KernelIdealOut
public import proofs.«01_k».proof.Proof.Gen.KernelIdeal.Points
public import Idealize.ShloMosaic.Lib.Quiescent
public import Idealize.ShloMosaic.Lib.Pipeline.CollectiveSegs

@[expose] public section

noncomputable section

namespace Cert.KernelIdealRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells and over the devices -/

/-- A family over a device's semaphores of the ring: the handshake's member and the transfers'. -/
theorem bigSep_option (Φ : CellIx → sProp 𝕄) : bigSep Finset.univ Φ = iprop(Φ none ∗ bigSep Finset.univ fun x : Fin 24 × Bool => Φ (some x)) := by
  have hu : (Finset.univ : Finset CellIx) = insert none (Finset.univ.map Function.Embedding.some) := by
    ext x; cases x <;> simp
  have hn : (none : CellIx) ∉ (Finset.univ.map Function.Embedding.some : Finset CellIx) := by simp
  rw [hu]
  refine (bigSep_insert hn).trans ?_
  rw [bigSep_map]; rfl
/-- The transfers' members, two for each. -/
theorem bigSep_osem (Φ : SemLoc sig → sProp 𝕄) : bigSep Finset.univ (fun x : Fin 24 × Bool => Φ (csem (some x)))
    = bigSep (Finset.range 24) fun i => iprop(Φ (.dma (sS i)) ∗ Φ (.dma (rS i))) := by
  have hr : Finset.range 24 = (Finset.univ : Finset (Fin 24)).map Fin.valEmbedding := by
    ext x; simp only [Finset.mem_range, Finset.mem_map, Finset.mem_univ, true_and]
    exact ⟨fun h => ⟨⟨x, h⟩, rfl⟩, fun ⟨y, hy⟩ => hy ▸ y.isLt⟩
  rw [bigSep_univ_prod, hr, bigSep_map]
  exact bigSep_congr fun i _ => bigSep_univ_eq_bigSepL [false, true] (by decide) (by decide) _
theorem bigSep_csem (Φ : SemLoc sig → sProp 𝕄) : bigSep Finset.univ (fun k : CellIx => Φ (csem k))
    = iprop(Φ (.reg barS) ∗ bigSep (Finset.range 24) fun i => iprop(Φ (.dma (sS i)) ∗ Φ (.dma (rS i)))) := by
  rw [bigSep_option, ← bigSep_osem]

/-- Families over the devices and over transfers commute. -/
theorem bigSep_devs (s : Finset ℕ) (Φ : Dev nD → ℕ → sProp 𝕄) :
    bigSep Finset.univ (fun c : Dev nD => bigSep s (Φ c)) = bigSep s fun i => bigSep Finset.univ fun c : Dev nD => Φ c i := by
  have h (Ψ : Dev nD → sProp 𝕄) : bigSep Finset.univ Ψ = iprop(Ψ 0 ∗ Ψ 1 ∗ Ψ 2 ∗ Ψ 3) :=
    bigSep_univ_eq_bigSepL [0, 1, 2, 3] (by decide) (by decide) Ψ
  rw [h, bigSep_congr (fun i _ => h fun c => Φ c i), bigSep_sep', bigSep_sep', bigSep_sep']

/-! ## The body as the pipeline's point -/

/-- What a device starts its body from: its share of the ring and its scratch buffers. -/
def before₀ (c : Dev nD) : sProp 𝕄 :=
  iprop(start m ρ c ∗ Pipeline.scopedRest (Ix := Unit) (Name := ℕ) (U := UU) (Lvl := ℕ) (Val := Elt F) spec0 c)
/-- What it ends with: every counter of the ring at zero and its scratch buffers. -/
def after₀ (c : Dev nD) : sProp 𝕄 :=
  iprop(semVal (barCell c) 0 ∗ bigSep (Finset.range 24) (closed c)
    ∗ Pipeline.scopedRest (Ix := Unit) (Name := ℕ) (U := UU) (Lvl := ℕ) (Val := Elt F) spec0 c)

/-- The proof data of the pipeline's one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => before₀ m ρ c
    | ⟨_ + 1, _⟩ => after₀ c
  q _ := fullShare
  owed t := match t with
    | ⟨0, _⟩ => O₀ c
    | ⟨_ + 1, _⟩ => 0

/-- A window's buffer held whole at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Everything done: the counters at zero, and the scratch buffers whole again. -/
theorem St_end (c : Dev nD) : (St c 24 24 : sProp 𝕄) ⊢ iprop(bigSep (Finset.range 24) (closed c)
    ∗ Pipeline.scopedRest (Ix := Unit) (Name := ℕ) (U := UU) (Lvl := ℕ) (Val := Elt F) spec0 c) := by
  unfold St
  rw [bigSep_congr (fun j hj => tr_done (F := F) c (n := 24) (i := 24) (Finset.mem_range.mp hj) (Finset.mem_range.mp hj))]
  unfold done
  rw [bigSep_sep']
  iintro ⟨Hc, Hk⟩
  isplitl [Hc]; · iexact Hc
  iapply (room_elim (F := F) c); iexact Hk

def bodyPre (c : Dev nD) : sProp 𝕄 :=
  iprop(before₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(after₀ c ∗ (dats m ρ 0 c).owesAt () t0_0.succ ∗ stg c cc0_stg0_0 (xstg m ρ c) ∗ stg c cc0_stg1_0 (outAt m ρ))

/-- The ring's steps, between what the pipeline hands the body and what it takes back. -/
theorem body_sound (c : Dev nD) : bodyPre m ρ c ⊢ runs c (.op .deviceId ringP) (fun _ => bodyPost m ρ c) := by
  unfold runs
  rw [wp_deviceId]
  unfold bodyPre before₀
  iintro ⟨⟨Hs, Hr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hroom := (room_intro (F := F) c) $$ Hr
  iapply (ring_sound m ρ c g1 W) $$ [Hs Hroom HO Hx Hout]
  · isplitl [Hs]; · iexact Hs
    isplitl [Hroom]; · iexact Hroom
    isplitl [HO]; · iexact HO
    isplitl [Hx]; · unfold xPts; iexact Hx
    unfold oPts; iexact Hout
  iintro ⟨HR, Hz⟩
  unfold Rg owesE xPts oPts
  icases HR with ⟨-, HS, ⟨%W', HO⟩, Hx, Hout⟩
  rw [Orem_end, outW_eq]
  ihave HE := (St_end (F := F) c) $$ HS
  icases HE with ⟨Hc, Hr⟩
  unfold bodyPost after₀ Dat.owesAt Pipeline.owesWithin
  rw [show (dats m ρ 0 c).owed t0_0.succ = 0 from rfl]
  isplitl [Hz Hc Hr]
  · isplitl [Hz]; · iexact Hz
    isplitl [Hc]; · iexact Hc
    iexact Hr
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 100000 in
/-- The body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ runs c (cc0_body (F := F) xM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13) (fun _ => bodyPost m ρ c)
  rw [body_eq]
  exact body_sound m ρ c

/-! ## The cells at launch -/

/-- The ring's own semaphores, two for each transfer. -/
abbrev osem (x : Fin 24 × Bool) : SemLoc sig := csem (some x)

theorem osem_spec (x : Fin 24 × Bool) : ∃ q : DmaSem sig, osem x = .dma q ∧ dec q = x.1.val ∧ isR q = x.2 := by
  obtain ⟨i, b⟩ := x
  cases b
  · exact ⟨sS i.val, rfl, dec_s i.isLt, isR_s i.isLt⟩
  · exact ⟨rS i.val, rfl, dec_r i.isLt, isR_r i.isLt⟩

theorem csem_injective : Function.Injective csem := by
  intro a b h
  cases a with
  | none => cases b with
    | none => rfl
    | some y => obtain ⟨q, hq, -⟩ := osem_spec y; exact absurd (h.trans hq).symm (dma_ne_bar q)
  | some x => cases b with
    | none => obtain ⟨q, hq, -⟩ := osem_spec x; exact absurd (hq.symm.trans h) (dma_ne_bar q)
    | some y =>
      obtain ⟨q, hq, h1, h2⟩ := osem_spec x
      obtain ⟨q', hq', h1', h2'⟩ := osem_spec y
      have e : q = q' := SemLoc.dma.inj (hq.symm.trans (h.trans hq'))
      subst e
      exact congrArg some (Prod.ext (Fin.ext (h1.symm.trans h1')) (h2.symm.trans h2'))

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem ownSemFacts : Pipeline.OwnSemFacts spec0 osem where
  isScoped := by decide +kernel
  inj := fun a b h => Option.some.inj (csem_injective h)
  disj := by decide +kernel

/-- The ring's cells, and two duty tokens for each. -/
def ringCells : Finset (GSem nD τ sig) := Finset.univ.map ⟨kcell, kcell_injective⟩
abbrev tokOf (x : (Dev nD × CellIx) × Bool) : GSem nD τ sig × ℕ × Bool := (kcell x.1, 0, x.2)
theorem tokOf_injective : Function.Injective tokOf := fun x y h =>
  Prod.ext (kcell_injective (congrArg Prod.fst h)) (congrArg (fun z : GSem nD τ sig × ℕ × Bool => z.2.2) h)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- What a device holds of a cell of its own: its position and the cell's tokens. -/
def mine (g : GSem nD τ sig) : sProp 𝕄 := iprop(atPos ER g 0 ∅ 0 ∗ dutyTok ER g 0 false ∗ dutyTok ER g 0 true)

/-- What the launch makes for device `c`, cell by cell. -/
def G (c : Dev nD) : sProp 𝕄 :=
  bigSep Finset.univ fun k : CellIx => iprop(roundState ER (ringRd m ρ) (kcell (c, k)) 0 ∗ reached ER (kcell (c, k)) 0 ∗ mine (kcell (c, k)))

theorem fund_ring : BI.own (ER (initOf ringCells ringToks)) ⊢ (|==> bigSep Finset.univ (G m ρ) : sProp 𝕄) := by
  have hX (Φ : GSem nD τ sig → sProp 𝕄) : bigSep ringCells Φ = bigSep Finset.univ fun ck : Dev nD × CellIx => Φ (kcell ck) := by
    unfold ringCells; rw [bigSep_map]; rfl
  have hT : bigSep ringToks (fun x => (dutyTok ER x.1 x.2.1 x.2.2 : sProp 𝕄))
      = bigSep Finset.univ fun ck : Dev nD × CellIx => iprop(dutyTok ER (kcell ck) 0 false ∗ dutyTok ER (kcell ck) 0 true) := by
    unfold ringToks; rw [bigSep_map, bigSep_univ_prod]
    exact bigSep_congr fun ck _ => bigSep_univ_eq_bigSepL [false, true] (by decide) (by decide) _
  have hG : bigSep Finset.univ (G m ρ) = bigSep Finset.univ fun ck : Dev nD × CellIx =>
      iprop(roundState ER (ringRd m ρ) (kcell ck) 0 ∗ reached ER (kcell ck) 0 ∗ mine (kcell ck)) := by
    rw [bigSep_univ_prod]; rfl
  rw [hG]
  unfold mine
  rw [bigSep_sep', bigSep_sep', bigSep_sep']
  iintro HX
  imod (Rounds.fund ER (ringRd m ρ) ringCells ringToks) $$ HX with ⟨Hst, Hr, Hat, Htok⟩
  imodintro
  isplitl [Hst]; · iapply (Entails.of_eq (hX fun g => roundState ER (ringRd m ρ) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- The handshake's semaphore is the one that lives outside the kernel. -/
theorem unscoped_eq (c : Dev nD) : (unscopedSems0 c : sProp 𝕄) = semVal (barCell c) 0 := by
  unfold unscopedSems0; rw [bigSep_eq_bigSepL_of_eq [SemLoc.reg barS] (by decide +kernel) (by decide)]; rfl
/-- The kernel's own, transfer by transfer. -/
theorem ownSems_eq (c : Dev nD) : (Pipeline.ownSems0 (Ix := Unit) (Name := ℕ) (U := UU) (Lvl := ℕ) (Val := Elt F) (τ := τ) osem c : sProp 𝕄)
    = bigSep (Finset.range 24) (closed c) :=
  bigSep_osem fun q => semVal ((c : Thread nD τ), q) 0
/-- The kernel's own counters and the handshake's are those of the ring's cells. -/
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : CellIx => (semVal (kcell (c, k)) 0 : sProp 𝕄)) := by
  rw [unscoped_eq, bigSep_option]
  unfold Pipeline.ownSems0
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> bigSep Finset.univ fun k : CellIx => iprop(known m ρ (kcell (c, k)) ∗ mine (kcell (c, k))) := by
  have h1 (k : CellIx) : iprop(semVal (kcell (c, k)) 0 ∗ roundState ER (ringRd m ρ) (kcell (c, k)) 0 ∗ reached ER (kcell (c, k)) 0 ∗ mine (kcell (c, k)))
      ⊢ (|={Set.univ}=> iprop(known m ρ (kcell (c, k)) ∗ mine (kcell (c, k))) : sProp 𝕄) := by
    iintro ⟨Hv, Hst, #Hr, Hm⟩
    imod ((Rounds.body_intro ER (ringRd m ρ) (kcell (c, k))).trans inv_alloc) $$ [Hv Hst] with ⟨%κ, #HI⟩
    · isplitl [Hv]; · iexact Hv
      iexact Hst
    imodintro
    isplitr
    · unfold known; iexists κ
      isplitr; · iexact HI
      iexact Hr
    iexact Hm
  unfold G
  iintro ⟨Hos, Hus, HG⟩
  ihave Hv := (sems_all (F := F) c) $$ [Hos Hus]
  · isplitl [Hos]; · iexact Hos
    iexact Hus
  ihave H := (Entails.of_eq (bigSep_sep' Finset.univ (fun k : CellIx => (semVal (kcell (c, k)) 0 : sProp 𝕄)) _).symm) $$ [Hv HG]
  · isplitl [Hv]; · iexact Hv
    iexact HG
  iapply (bigSep_fupd (E := Set.univ) Finset.univ fun k : CellIx => iprop(known m ρ (kcell (c, k)) ∗ mine (kcell (c, k))))
  iapply (bigSep_imp (s := Finset.univ) fun k _ => h1 k)
  iexact H

/-! ## The tokens dealt around the ring -/

/-- A device's own positions and tokens. -/
def own (c : Dev nD) (i : ℕ) : sProp 𝕄 :=
  iprop((atPos ER (sendCell c i) 0 ∅ 0 ∗ atPos ER (recvCell c i) 0 ∅ 0 ∗ dutyTok ER (sendCell c i) 0 false) ∗ dutyTok ER (recvCell c i) 0 false)
/-- What it starts transfer `i` with, the credit apart. -/
def dealt (c : Dev nD) (i : ℕ) : sProp 𝕄 :=
  iprop((atPos ER (sendCell c i) 0 ∅ 0 ∗ atPos ER (recvCell c i) 0 ∅ 0 ∗ dutyTok ER (sendCell c i) 0 false) ∗ dutyTok ER (recvCell (tgt c i) i) 0 false)
def linear (c : Dev nD) : sProp 𝕄 :=
  iprop((atPos ER (barCell c) 0 ∅ 0 ∗ dutyTok ER (barCell (nxt c)) 0 false ∗ dutyTok ER (barCell (prv c)) 0 true) ∗ bigSep (Finset.range 24) (dealt c))

theorem own_intro (c : Dev nD) : (bigSep Finset.univ fun k : CellIx => (mine (kcell (c, k)) : sProp 𝕄))
    ⊢ iprop((atPos ER (barCell c) 0 ∅ 0 ∗ dutyTok ER (barCell c) 0 false ∗ dutyTok ER (barCell c) 0 true) ∗ bigSep (Finset.range 24) (own c)) := by
  iintro H
  ihave H := (Entails.of_eq (bigSep_csem fun q => mine ((c : Thread nD τ), q))) $$ H
  icases H with ⟨Hb, Hs⟩
  isplitl [Hb]; · unfold mine; iexact Hb
  iapply (bigSep_imp (s := Finset.range 24) fun i _ => show iprop(mine (sendCell c i) ∗ mine (recvCell c i)) ⊢ own c i from by
    unfold mine own
    iintro ⟨⟨Ha, Ht, -⟩, Ha', Ht', -⟩
    isplitl [Ha Ht Ha']
    · isplitl [Ha]; · iexact Ha
      isplitl [Ha']; · iexact Ha'
      iexact Ht
    iexact Ht')
  iexact Hs

/-- Every token goes to the device that uses it. -/
theorem toks_around : (bigSep Finset.univ fun c : Dev nD => (bigSep Finset.univ fun k : CellIx => mine (kcell (c, k)) : sProp 𝕄))
    ⊢ bigSep Finset.univ fun c : Dev nD => linear c := by
  refine (bigSep_imp (s := Finset.univ) fun c _ => own_intro (F := F) c).trans (Entails.of_eq ?_)
  have hr : (bigSep Finset.univ fun c : Dev nD => (bigSep (Finset.range 24) (own c) : sProp 𝕄)) = bigSep Finset.univ fun c : Dev nD => bigSep (Finset.range 24) (dealt c) := by
    rw [bigSep_devs, bigSep_devs]
    refine bigSep_congr fun i _ => ?_
    unfold own dealt
    rw [bigSep_sep', bigSep_sep' Finset.univ _ fun c : Dev nD => (dutyTok ER (recvCell (tgt c i) i) 0 false : sProp 𝕄),
      bigSep_univ_equiv (ringAt i) (fun c : Dev nD => (dutyTok ER (recvCell c i) 0 false : sProp 𝕄))]
    rfl
  unfold linear
  rw [bigSep_sep', bigSep_sep', bigSep_sep', hr, bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄))]
  rfl

/-- What the launch deals device `c`. -/
def G' (c : Dev nD) : sProp 𝕄 := iprop(recs m ρ ∗ linear c)

theorem deal : (bigSep Finset.univ fun c : Dev nD => bigSep Finset.univ fun k : CellIx => iprop(known m ρ (kcell (c, k)) ∗ mine (kcell (c, k))) : sProp 𝕄)
    ⊢ bigSep Finset.univ (G' m ρ) := by
  have h (c : Dev nD) : (bigSep Finset.univ fun k : CellIx => iprop(known m ρ (kcell (c, k)) ∗ mine (kcell (c, k))) : sProp 𝕄)
      = iprop((bigSep Finset.univ fun k : CellIx => known m ρ (kcell (c, k))) ∗ bigSep Finset.univ fun k : CellIx => mine (kcell (c, k))) := bigSep_sep' _ _ _
  unfold G'
  rw [bigSep_congr (fun c _ => h c), bigSep_sep', bigSep_sep', ← bigSep_univ_prod (fun ck : Dev nD × CellIx => known m ρ (kcell ck))]
  iintro ⟨#HR, HM⟩
  isplitr
  · iapply (BI.bigSep_of_persistent (Finset.univ : Finset (Dev nD)) (recs m ρ)); unfold recs; iexact HR
  iapply (toks_around (F := F)); iexact HM

/-- The one step over the counters of all devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (deal m ρ))

/-! ## The credit at launch -/

theorem bar_inj {a b : Dev nD} (h : barCell a = barCell b) : a = b := congrArg (fun g : GSem nD τ sig => g.1.1) h
theorem recv_inj {a b : Dev nD} {i j : ℕ} (hi : i < 24) (hj : j < 24) (h : recvCell a i = recvCell b j) : a = b ∧ i = j := by
  refine ⟨congrArg (fun g : GSem nD τ sig => g.1.1) h, ?_⟩
  have hq : rS i = rS j := SemLoc.dma.inj (congrArg Prod.snd h)
  rw [← dec_r hi, ← dec_r hj, hq]

theorem O₀_at (d : Dev nD) (g : GSem nD τ sig) :
    O₀ d g () = Orem d 0 g () + (if g = barCell (nxt d) then 1 else 0) + (if g = barCell (prv d) then 1 else 0) := by
  unfold O₀ O₁
  rw [Pi.add_apply, Finsupp.add_apply, Pi.add_apply, Finsupp.add_apply, tallyAt_apply, tallyAt_apply]
  simp only [and_true]

/-- Each neighbour owes a device's handshake one unit. -/
theorem owed_bar (d c : Dev nD) : O₀ d (barCell c) () = (if d = prv c then 1 else 0) + (if d = nxt c then 1 else 0) := by
  rw [O₀_at]
  have h0 : Orem d 0 (barCell c) () = 0 := by
    by_contra h
    obtain ⟨j, -, -, hg⟩ := Orem_pos (Nat.pos_of_ne_zero h)
    exact dma_ne_bar _ (congrArg Prod.snd hg).symm
  have h1 : barCell c = barCell (nxt d) ↔ d = prv c :=
    ⟨fun h => by rw [bar_inj h, prv_nxt], fun h => by rw [h, nxt_prv]⟩
  have h2 : barCell c = barCell (prv d) ↔ d = nxt c :=
    ⟨fun h => by rw [bar_inj h, nxt_prv], fun h => by rw [h, prv_nxt]⟩
  rw [h0, Nat.zero_add]
  simp only [h1, h2]

/-- The origin of a transfer owes its receive semaphore one transfer. -/
theorem owed_recv (d c : Dev nD) {i : ℕ} (hi : i < 24) : O₀ d (recvCell c i) () = if d = org c i then N else 0 := by
  rw [O₀_at, if_neg (fun h => dma_ne_bar _ (congrArg Prod.snd h)), if_neg (fun h => dma_ne_bar _ (congrArg Prod.snd h)), Nat.add_zero]
  unfold Orem
  rw [Finset.sum_apply, Finsupp.finset_sum_apply, Finset.sum_eq_single i]
  · rw [tallyAt_apply]
    by_cases h : d = org c i
    · rw [if_pos h, if_pos ⟨by rw [h, tgt_org], rfl⟩]
    · rw [if_neg h, if_neg (fun h' => h (by rw [(recv_inj hi hi h'.1).1, org_tgt]))]
  · intro j hj hne
    rw [tallyAt_apply]
    exact if_neg fun h' => hne (recv_inj hi (Finset.mem_Ico.mp hj).2 h'.1).2.symm
  · exact fun h => absurd (Finset.mem_Ico.mpr ⟨Nat.zero_le _, hi⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) {i : ℕ} (hi : i < 24) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c hi, Finset.sum_ite_eq' Finset.univ (org c i) fun _ => N,
    if_pos (Finset.mem_univ _)]

/-- A device's credits: two units for the handshake, a transfer for every receive semaphore. -/
theorem creds (c : Dev nD) : (Pipeline.launchCred O₀ c : sProp 𝕄)
    ⊢ iprop(cred (tallyAt (barCell c) () 2) ∗ bigSep (Finset.range 24) fun i => cred (tallyAt (recvCell c i) () N)) := by
  have hs : bigSep Finset.univ (fun q : SemLoc sig => (cred (tallyOn ((c : Thread nD τ), q) (launchCredit (Pipeline.owing O₀) 0 ((c : Thread nD τ), q))) : sProp 𝕄))
      ⊢ bigSep Finset.univ (fun k : CellIx => (cred (tallyOn (kcell (c, k)) (launchCredit (Pipeline.owing O₀) 0 (kcell (c, k)))) : sProp 𝕄)) :=
    (bigSep_subset (Finset.subset_univ (Finset.univ.map ⟨csem, csem_injective⟩))).trans (Entails.of_eq (bigSep_map _))
  unfold Pipeline.launchCred
  iintro H
  ihave H := hs $$ H
  ihave H := (Entails.of_eq (bigSep_csem fun q => cred (tallyOn ((c : Thread nD τ), q) (launchCredit (Pipeline.owing O₀) 0 ((c : Thread nD τ), q))))) $$ H
  icases H with ⟨Hb, Hs⟩
  isplitl [Hb]
  · iapply (Entails.of_eq (congrArg cred (launch_bar c))); iexact Hb
  iapply (bigSep_imp (s := Finset.range 24) fun i hi => show _ ⊢ (cred (tallyAt (recvCell c i) () N) : sProp 𝕄) from
    sep_elim_right.trans (Entails.of_eq (congrArg cred (launch_recv c (Finset.mem_range.mp hi)))))
  iexact Hs

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear
  iintro ⟨-, #Hlev, Hcr, -, #HR, ⟨Hb, Htf, Htt⟩, Hd⟩
  ihave Hc := (creds (F := F) c) $$ Hcr
  icases Hc with ⟨Hcb, Hcs⟩
  ihave Hp := (Entails.of_eq (bigSep_sep' (Finset.range 24) (dealt c) (fun i => (cred (tallyAt (recvCell c i) () N) : sProp 𝕄))).symm) $$ [Hd Hcs]
  · isplitl [Hd]; · iexact Hd
    iexact Hcs
  imodintro
  unfold start ctx shakeTok
  isplitl
  · isplitr
    · isplitr; · iexact HR
      iexact Hlev
    isplitl [Hb Hcb Htt Htf]
    · isplitl [Hb]; · iexact Hb
      isplitl [Hcb]; · iexact Hcb
      isplitl [Htt]; · iexact Htt
      iexact Htf
    iapply (bigSep_imp (s := Finset.range 24) fun i _ => show iprop(dealt c i ∗ cred (tallyAt (recvCell c i) () N)) ⊢ pre c i from by
      unfold dealt pre
      iintro ⟨⟨⟨Ha, Ha', Ht⟩, Ht'⟩, Hc⟩
      isplitl [Ha]; · iexact Ha
      isplitl [Ha']; · iexact Ha'
      isplitl [Hc]; · iexact Hc
      isplitl [Ht]; · iexact Ht
      iexact Ht')
    iexact Hp
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl]
  unfold before₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, unscoped_eq, ownSems_eq]
  unfold after₀
  iintro ⟨Hb, Hc, Hr⟩
  isplitl [Hb]; · iexact Hb
  isplitl [Hc]; · iexact Hc
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What a window's array holds at the end. -/
def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- From any memory with zero counters, on all four devices: the kernel terminates, the windows' arrays end at what the
    pipeline computed, every counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends unchanged. -/
theorem finalA_x (c : Dev nD) : finalA m ρ c (0 : Fin 2) = m ((c : Thread nD τ).loc main_arg0) :=
  (dats (F := F) m ρ 0 c).arrAt_in (0 : Fin 2) rfl _

/-- The result array ends at the result. -/
theorem finalA_o (c : Dev nD) : finalA m ρ c (1 : Fin 2) = outAt m ρ := by
  have h : (win0_1.blk (0 : Fin 1)).view.read (Elt F) (finalA m ρ c (1 : Fin 2)) = outAt m ρ := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The run, read at the two arrays. -/
theorem run_arrays : θ_run defs (onTc (τ := τ) (main (F := F))) (s₀ m ρ) (fun r =>
    (∀ c : Dev nD, r.2.mem ((c : Thread nD τ).loc main_v1) = outAt m ρ ∧ r.2.mem ((c : Thread nD τ).loc main_arg0) = m ((c : Thread nD τ).loc main_arg0))
      ∧ r.2.sem = fun _ => 0) :=
  (θ_run _ _ _).mono (fun _ h => ⟨fun c => ⟨(h.1 c (1 : Fin 2)).trans (finalA_o m ρ c), (h.1 c (0 : Fin 2)).trans (finalA_x m ρ c)⟩, h.2⟩) (run_main m ρ)

end Cert.KernelIdealRing

end
-- ==== Proof.KernelIdealValue.lean ====
/-
# The value

Read over the extended reals, every element of a device's result is the sum of the four devices' elements at that place:
a block gathers the four contributions in the order its stream meets them, and the sum does not depend on the order.
-/
module

public import proofs.«01_k».proof.Proof.KernelIdealRun
public import proofs.«01_k».proof.Proof.Gen.ReferenceIdeal.Run
public import Idealize.ShloMosaic.Lib.Layout
public import Idealize.ShloMosaic.Lib.ValueIdx
public import Idealize.ShloMosaic.Lib.Pipeline.Value
public import Idealize.ShloMosaic.PureOps.Ideal.Laws

@[expose] public section

noncomputable section

namespace Cert.KernelIdealRing

open Cert.KernelIdeal Cert.KernelIdeal.Gen

open Idealize.ShloMosaic
open Idealize.ShloMosaic.TcCoe
open Idealize.SL Idealize.SL.Sem

section
variable {F : FTy → Type} [FloatOps F]
variable (m : (ℓ : Loc nD τ sig) → Buf (Elt F) ℓ) (ρ : Dev nD → PrngReg)

/-- The place of a device's input that the place `p` of the result is summed from. -/
def inIdx (p : S2048x1024.Idx) : S1x2048x1024.Idx := Fin.cons (0 : Fin 1) p

/-- The input's buffer holds the whole input. -/
theorem xstg_eq (c : Dev nD) : xstg m ρ c = m ((c : Thread nD τ).loc main_arg0) := by
  have hz : (fun a => win0_0.index (0 : Fin 1) a * main_arg0.ty.shape.size a) = fun _ => 0 := by
    funext a; fin_cases a <;> decide
  exact Memref.read_access_unit_zero (Elt F) main_arg0 hz _ _

/-- An element of the block a device adds in transfer `i`. -/
theorem xblk_at (c : Dev nD) (i : ℕ) (y : S512x256.Idx) (p : S2048x1024.Idx)
    (h0 : 512 * ((c.val + (if i % 2 = 0 then 3 else 1) * (i / 4)) % 4) + (y 0).val = (p 0).val)
    (h1 : 512 * (i % 2) + 256 * stx i + (y 1).val = (p 1).val) :
    xblk m ρ c i y = m ((c : Thread nD τ).loc main_arg0) (inIdx p) := by
  unfold xblk
  rw [xstg_eq]
  refine (shapeCast_dropUnit_apply _ _ _ y).trans ?_
  refine congrArg (m ((c : Thread nD τ).loc main_arg0)) ?_
  funext a
  apply Fin.ext
  fin_cases a
  · rfl
  · show 512 * ((c.val + (if i % 2 = 0 then 3 else 1) * (i / 4)) % 4) + 1 * (y 0).val = (p 0).val
    omega
  · show 512 * (i % 2) + 256 * stx i + 1 * (y 1).val = (p 1).val
    omega

/-- The block the device `e` adds in round `k` to the stream of the place `p`, read at that place: `e`'s input there, if
    the rows `e` reads in that round are `p`'s. -/
theorem xblk_out (p : S2048x1024.Idx) (k : ℕ) (e : Dev nD)
    (he : (e.val + (if (p 1).val / 512 = 0 then 3 else 1) * k) % 4 = (p 0).val / 512) :
    xblk m ρ e (4 * k + outStream p) (outIdx p) = m ((e : Thread nD τ).loc main_arg0) (inIdx p) := by
  have h0 : (p 0).val < 2048 := (p 0).isLt
  have h1 : (p 1).val < 1024 := (p 1).isLt
  have ha : (p 1).val / 512 < 2 := by omega
  have hb : (p 1).val % 512 / 256 < 2 := by omega
  have hq : outStream p = 2 * ((p 1).val % 512 / 256) + (p 1).val / 512 := rfl
  have hi : (4 * k + outStream p) / 4 = k := by
    rw [hq]; generalize (p 1).val / 512 = a at *; generalize (p 1).val % 512 / 256 = b at *; omega
  have hj : (4 * k + outStream p) % 2 = (p 1).val / 512 := by
    rw [hq]; generalize (p 1).val / 512 = a at *; generalize (p 1).val % 512 / 256 = b at *; omega
  have ht : stx (4 * k + outStream p) = (p 1).val % 512 / 256 := by
    rw [hq]; unfold stx
    generalize (p 1).val / 512 = a at *; generalize (p 1).val % 512 / 256 = b at *; omega
  refine xblk_at m ρ e _ _ p ?_ ?_
  · rw [hi, hj, he]
    show 512 * ((p 0).val / 512) + (p 0).val % 512 = (p 0).val
    omega
  · rw [hj, ht]
    show 512 * ((p 1).val / 512) + 256 * ((p 1).val % 512 / 256) + (p 1).val % 256 = (p 1).val
    omega

/-- The device that adds in round `k` reads the rows its stream ends at. -/
theorem back_row (p : S2048x1024.Idx) (k : ℕ) (hk : k ≤ 3) :
    ((back (outStream p) (3 - k) (outDev p)).val + (if (p 1).val / 512 = 0 then 3 else 1) * k) % 4 = (p 0).val / 512 := by
  have h0 : (p 0).val < 2048 := (p 0).isLt
  have h1 : (p 1).val < 1024 := (p 1).isLt
  have hj : outStream p % 2 = (p 1).val / 512 := by unfold outStream; omega
  show ((((p 0).val / 512 + (if (p 1).val / 512 = 0 then 3 else 1)) % 4
    + (if outStream p % 2 = 0 then 3 else 1) * (3 - k)) % 4 + (if (p 1).val / 512 = 0 then 3 else 1) * k) % 4 = (p 0).val / 512
  rw [hj]
  split <;> omega

theorem back_zero (j : ℕ) (c : Dev nD) : back j 0 c = c := Fin.ext (Nat.mod_eq_of_lt c.isLt)

/-- Which way a stream runs is all that tells the devices up it. -/
theorem back_mod (j h : ℕ) (c : Dev nD) : back j h c = back (j % 2) h c := by
  unfold back; simp only [Nat.mod_mod]

theorem org_mod (j : ℕ) (c : Dev nD) : org c j = org c (j % 2) := by
  unfold org; simp only [Nat.mod_mod]

theorem back_one (j : ℕ) (c : Dev nD) : org c j = back j 1 c := by
  rw [back_mod, org_mod]
  rcases Nat.mod_two_eq_zero_or_one j with e | e <;> rw [e] <;> revert c <;> decide

theorem back_add (j h : ℕ) (c : Dev nD) : org (back j h c) j = back j (h + 1) c := by
  rw [back_one]
  apply Fin.ext
  show ((c.val + (if j % 2 = 0 then 3 else 1) * h) % 4 + (if j % 2 = 0 then 3 else 1) * 1) % 4
    = (c.val + (if j % 2 = 0 then 3 else 1) * (h + 1)) % 4
  split <;> omega

/-- The four devices up a stream are all the devices, each once. -/
theorem back_all (j : ℕ) (d : Dev nD) :
    (Finset.univ : Finset (Dev nD)) = {back j 3 d, back j 2 d, back j 1 d, back j 0 d}
    ∧ back j 3 d ∉ ({back j 2 d, back j 1 d, back j 0 d} : Finset (Dev nD))
    ∧ back j 2 d ∉ ({back j 1 d, back j 0 d} : Finset (Dev nD))
    ∧ back j 1 d ∉ ({back j 0 d} : Finset (Dev nD)) := by
  rw [back_mod j 3, back_mod j 2, back_mod j 1, back_mod j 0]
  rcases Nat.mod_two_eq_zero_or_one j with e | e <;> rw [e] <;> revert d <;> decide

end

/-! ## Over the extended reals -/

variable (m : (ℓ : Loc nD τ sig) → Buf (Elt Ideal) ℓ) (ρ : Dev nD → PrngReg)

/-- So a sum over them is the sum over the devices. -/
theorem sum_back (f : Dev nD → EReal) (j : ℕ) (d : Dev nD) :
    f (back j 3 d) + f (back j 2 d) + f (back j 1 d) + f (back j 0 d) = ∑ c : Dev nD, f c := by
  obtain ⟨h, h3, h2, h1⟩ := back_all j d
  rw [h, Finset.sum_insert h3, Finset.sum_insert h2, Finset.sum_insert h1, Finset.sum_singleton, add_assoc, add_assoc]

/-- What device `c` holds of the place `p`. -/
def inAt (c : Dev nD) (p : S2048x1024.Idx) : EReal := m ((c : Thread nD τ).loc main_arg0) (inIdx p)

/-- What a stream carries after three rounds: the contributions of the four devices it has met. -/
theorem valh_three (j : ℕ) (d : Dev nD) (y : S512x256.Idx) :
    valh m ρ j 3 d y = (xblk m ρ (back j 3 d) (4 * 0 + j) y : EReal) + xblk m ρ (back j 2 d) (4 * 1 + j) y
      + xblk m ρ (back j 1 d) (4 * 2 + j) y + xblk m ρ (back j 0 d) (4 * 3 + j) y := by
  rw [← back_add j 2, ← back_add j 1, ← back_add j 0, back_zero, Nat.mul_zero, Nat.zero_add]
  rfl

/-- An element of the result is the sum of the devices' elements at that place. -/
theorem outAt_sum (p : S2048x1024.Idx) :
    outAt m ρ p = ∑ c : Dev nD, inAt m c p := by
  refine (valh_three m ρ (outStream p) (outDev p) (outIdx p)).trans ?_
  rw [xblk_out m ρ p 0 _ (back_row p 0 (by decide)), xblk_out m ρ p 1 _ (back_row p 1 (by decide)),
    xblk_out m ρ p 2 _ (back_row p 2 (by decide)), xblk_out m ρ p 3 _ (back_row p 3 (by decide))]
  exact sum_back (fun c => inAt m c p) (outStream p) (outDev p)

/-- The result is the reference's, of the array whose parts the devices hold. -/
theorem outAt_eq (X : FVec Ideal Cert.ReferenceIdeal.S4x2048x1024 .f32)
    (hX : ∀ c : Dev nD, m ((c : Thread nD τ).loc main_arg0)
      = Layout.block ⟨3, ![1, 2048, 1024]⟩ ⟨3, ![4, 2048, 1024]⟩ 0 4 c X)
    (h : Cert.ReferenceIdeal.S4x2048x1024.ReducesTo [0] Cert.ReferenceIdeal.S2048x1024)
    (hu : 0 < Cert.ReferenceIdeal.S_.numel) :
    outAt m ρ = Host.reduceAdd X (constant Cert.ReferenceIdeal.S_ .f32 0x00000000#32) h hu := by
  funext p
  have hr : Cert.ReferenceIdeal.S4x2048x1024.Reduces [0] Cert.ReferenceIdeal.S2048x1024 := by decide
  rw [outAt_sum]
  refine Eq.symm ((Ideal.hostReduceAdd_single h hr X (Ideal.ofBits .f32 0x00000000#32) p).trans ?_)
  rw [Ideal.ofBits_zero_f32, zero_add]
  refine Finset.sum_congr rfl fun c _ => Eq.symm ?_
  unfold inAt
  rw [hX c]
  refine congrArg X ?_
  funext a
  apply Fin.ext
  fin_cases a
  · show c.val * 1 + 0 = c.val
    omega
  · rfl
  · rfl

end Cert.KernelIdealRing

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, its input unchanged, and every semaphore ends at zero. -/
theorem frame_kernel : Cert.quiescent_Kernel (hKernel := Cert.Kernel.Gen.facts) := fun m g _ =>
  (θ_run Cert.Kernel.defs _ _).mono (fun _ h => ⟨fun c => (h.1 c).2, h.2⟩) (Cert.KernelRing.run_arrays m g)

/-- So does the kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdealRing.run_arrays m g)

/-- So does the reference, which has no semaphores. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Over the extended reals every device's result is the reference's: the sum of the four blocks. -/
theorem value : Cert.algebraic_KernelIdeal_ReferenceIdeal (hKernelIdeal := Cert.KernelIdeal.Gen.facts)
    (hReferenceIdeal := Cert.ReferenceIdeal.Gen.facts) := fun m g m' g' _ hX =>
  ⟨_, (θ_run Cert.KernelIdeal.defs _ _).mono
      (fun _ h c => ⟨(h.1 c).1.trans (Cert.KernelIdealRing.outAt_eq m g _ hX _ _), (h.1 c).2⟩)
      (Cert.KernelIdealRing.run_arrays m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
